-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "sb_scale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v35) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "inv_sqrt2" .f32 0x3F3504F3#32 (((Real.sqrt 2)⁻¹ : ℝ) : EReal)
  ∧ IdealRules.named_const.Statement Cert.Kernel6Ideal.κ "inv_half" .f32 0x39AAAAAB#32 ((1 / 3072 : ℝ) : EReal)

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v69) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S16384x1024 : Shape := ⟨2, ![16384, 1024]⟩
abbrev S1024 : Shape := ⟨1, ![1024]⟩
abbrev S1024x6144 : Shape := ⟨2, ![1024, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S4x1024x4096 : Shape := ⟨3, ![4, 1024, 4096]⟩
abbrev S4x4096x1024 : Shape := ⟨3, ![4, 4096, 1024]⟩
abbrev S_ : Shape := ⟨0, ![]⟩

class Facts : Prop where
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S16384x1024 .f32) (main_arg1 : FVec F S1024 .f32) (main_arg2 : FVec F S1024x6144 .f32) (main_arg3 : FVec F S3072 .f32) (main_arg4 : FVec F S3072 .f32) (main_arg5 : FVec F S8x128x128 .f32) (main_arg6 : FVec F S8x128 .f32) (main_arg7 : FVec F S3072x1024 .f32) (main_arg8 : FVec F S4x1024x4096 .f32) (main_arg9 : FVec F S4x4096x1024 .f32) : IVec S1024 1 × IVec S1024x6144 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x6144 .f32 := Host.absf main_arg2
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Kernel.lean ====
abbrev S16384x2048 : Shape := ⟨2, ![16384, 2048]⟩
abbrev S2x512 : Shape := ⟨2, ![2, 512]⟩
abbrev S512 : Shape := ⟨1, ![512]⟩
abbrev S512x1 : Shape := ⟨2, ![512, 1]⟩
abbrev S1x256 : Shape := ⟨2, ![1, 256]⟩
abbrev S768x1 : Shape := ⟨2, ![768, 1]⟩
abbrev S128x128 : Shape := ⟨2, ![128, 128]⟩
abbrev S1x512 : Shape := ⟨2, ![1, 512]⟩
abbrev S512x256 : Shape := ⟨2, ![512, 256]⟩
abbrev S_ : Shape := ⟨0, ![]⟩
abbrev S768x256 : Shape := ⟨2, ![768, 256]⟩
abbrev S16384x512 : Shape := ⟨2, ![16384, 512]⟩
abbrev S1024x512 : Shape := ⟨2, ![1024, 512]⟩
abbrev S4x128x128 : Shape := ⟨3, ![4, 128, 128]⟩
abbrev S128x1 : Shape := ⟨2, ![128, 1]⟩
abbrev S128x512 : Shape := ⟨2, ![128, 512]⟩
abbrev S256x512 : Shape := ⟨2, ![256, 512]⟩
abbrev S512x512 : Shape := ⟨2, ![512, 512]⟩
abbrev S384x512 : Shape := ⟨2, ![384, 512]⟩
abbrev S1x128x512 : Shape := ⟨3, ![1, 128, 512]⟩
abbrev S1 : Shape := ⟨1, ![1]⟩
abbrev S1x1x1 : Shape := ⟨3, ![1, 1, 1]⟩
abbrev S768x512 : Shape := ⟨2, ![768, 512]⟩
abbrev S1x128x128 : Shape := ⟨3, ![1, 128, 128]⟩
abbrev S1x128 : Shape := ⟨2, ![1, 128]⟩
abbrev S128 : Shape := ⟨1, ![128]⟩

abbrev nBuf : Space → Nat
  | .hbm => 40
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2x512, .f32⟩
  | .hbm, ⟨2, _⟩ => ⟨S512, .f32⟩
  | .hbm, ⟨3, _⟩ => ⟨S512x1, .i32⟩
  | .hbm, ⟨4, _⟩ => ⟨S512x1, .i32⟩
  | .hbm, ⟨5, _⟩ => ⟨S512x1, .i32⟩
  | .hbm, ⟨6, _⟩ => ⟨S1x256, .i32⟩
  | .hbm, ⟨7, _⟩ => ⟨S768x1, .i32⟩
  | .hbm, ⟨8, _⟩ => ⟨S768x1, .i32⟩
  | .hbm, ⟨9, _⟩ => ⟨S768x1, .i32⟩
  | .hbm, ⟨10, _⟩ => ⟨S1x256, .i32⟩
  | .hbm, ⟨11, _⟩ => ⟨S128x128, .i32⟩
  | .hbm, ⟨12, _⟩ => ⟨S1x512, .f32⟩
  | .hbm, ⟨13, _⟩ => ⟨S512x256, .i32⟩
  | .hbm, ⟨14, _⟩ => ⟨S512x256, .i32⟩
  | .hbm, ⟨15, _⟩ => ⟨S512x256, .i1⟩
  | .hbm, ⟨16, _⟩ => ⟨S512x256, .i32⟩
  | .hbm, ⟨17, _⟩ => ⟨S512x256, .i32⟩
  | .hbm, ⟨18, _⟩ => ⟨S512x256, .i1⟩
  | .hbm, ⟨19, _⟩ => ⟨S512x256, .i1⟩
  | .hbm, ⟨20, _⟩ => ⟨S_, .i32⟩
  | .hbm, ⟨21, _⟩ => ⟨S_, .i32⟩
  | .hbm, ⟨22, _⟩ => ⟨S512x256, .i32⟩
  | .hbm, ⟨23, _⟩ => ⟨S512x256, .i32⟩
  | .hbm, ⟨24, _⟩ => ⟨S512x256, .i32⟩
  | .hbm, ⟨25, _⟩ => ⟨S512x256, .bf16⟩
  | .hbm, ⟨26, _⟩ => ⟨S768x256, .i32⟩
  | .hbm, ⟨27, _⟩ => ⟨S768x256, .i32⟩
  | .hbm, ⟨28, _⟩ => ⟨S768x256, .i1⟩
  | .hbm, ⟨29, _⟩ => ⟨S768x256, .i32⟩
  | .hbm, ⟨30, _⟩ => ⟨S768x256, .i32⟩
  | .hbm, ⟨31, _⟩ => ⟨S768x256, .i1⟩
  | .hbm, ⟨32, _⟩ => ⟨S768x256, .i1⟩
  | .hbm, ⟨33, _⟩ => ⟨S_, .i32⟩
  | .hbm, ⟨34, _⟩ => ⟨S_, .i32⟩
  | .hbm, ⟨35, _⟩ => ⟨S768x256, .i32⟩
  | .hbm, ⟨36, _⟩ => ⟨S768x256, .i32⟩
  | .hbm, ⟨37, _⟩ => ⟨S768x256, .i32⟩
  | .hbm, ⟨38, _⟩ => ⟨S768x256, .bf16⟩
  | .hbm, ⟨39, _⟩ => ⟨S16384x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2x512, .f32⟩
  | .local _ .vmem, ⟨9, _⟩ => ⟨S1x512, .f32⟩
  | .local _ .vmem, ⟨10, _⟩ => ⟨S512x256, .bf16⟩
  | .local _ .vmem, ⟨11, _⟩ => ⟨S768x256, .bf16⟩
  | .local _ .vmem, ⟨12, _⟩ => ⟨S128x128, .i32⟩
  | .local _ .vmem, ⟨13, _⟩ => ⟨S1024x512, .bf16⟩
  | .local _ .vmem, ⟨14, _⟩ => ⟨S1024x512, .bf16⟩
  | .local _ .vmem, ⟨15, _⟩ => ⟨S4x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_8 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_9 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S2x1024x6144 : Shape := ⟨3, ![2, 1024, 6144]⟩
abbrev S2x3072x1024 : Shape := ⟨3, ![2, 3072, 1024]⟩
abbrev S1x1024 : Shape := ⟨2, ![1, 1024]⟩
abbrev S1024x6144 : Shape := ⟨2, ![1024, 6144]⟩
abbrev S3072x1024 : Shape := ⟨2, ![3072, 1024]⟩
abbrev S1024x512 : Shape := ⟨2, ![1024, 512]⟩
abbrev S1x64x6144 : Shape := ⟨3, ![1, 64, 6144]⟩
abbrev S1x192x1024 : Shape := ⟨3, ![1, 192, 1024]⟩
abbrev S64x6144 : Shape := ⟨2, ![64, 6144]⟩
abbrev S192x1024 : Shape := ⟨2, ![192, 1024]⟩
abbrev S512x1024 : Shape := ⟨2, ![512, 1024]⟩
abbrev S1024x1 : Shape := ⟨2, ![1024, 1]⟩

abbrev nBuf : Space → Nat
  | .hbm => 17
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x1024x6144, .f32⟩
  | .hbm, ⟨8, _⟩ => ⟨S2x3072x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1024x1024, .bf16⟩
  | .hbm, ⟨14, _⟩ => ⟨S16384x1024, .f32⟩
  | .hbm, ⟨15, _⟩ => ⟨S1024x6144, .bf16⟩
  | .hbm, ⟨16, _⟩ => ⟨S3072x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x64x6144, .f32⟩
  | .local _ .vmem, ⟨12, _⟩ => ⟨S1x64x6144, .f32⟩
  | .local _ .vmem, ⟨13, _⟩ => ⟨S1x192x1024, .f32⟩
  | .local _ .vmem, ⟨14, _⟩ => ⟨S1x192x1024, .f32⟩
  | .local _ .vmem, ⟨15, _⟩ => ⟨S1024x1024, .f32⟩
  | .local _ .vmem, ⟨16, _⟩ => ⟨S1024x1024, .f32⟩
  | .local _ .vmem, ⟨17, _⟩ => ⟨S64x6144, .bf16⟩
  | .local _ .vmem, ⟨18, _⟩ => ⟨S64x6144, .bf16⟩
  | .local _ .vmem, ⟨19, _⟩ => ⟨S192x1024, .bf16⟩
  | .local _ .vmem, ⟨20, _⟩ => ⟨S192x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S2x1024x6144 : Shape := ⟨3, ![2, 1024, 6144]⟩
abbrev S2x3072x1024 : Shape := ⟨3, ![2, 3072, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x1024x6144 : Shape := ⟨3, ![1, 1024, 6144]⟩
abbrev S1024x6144 : Shape := ⟨2, ![1024, 6144]⟩
abbrev S1x3072x1024 : Shape := ⟨3, ![1, 3072, 1024]⟩
abbrev S3072x1024 : Shape := ⟨2, ![3072, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x1024x6144, .f32⟩
  | .hbm, ⟨8, _⟩ => ⟨S2x3072x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | .hbm, ⟨37, _⟩ => ⟨S1x1024x6144, .f32⟩
  | .hbm, ⟨38, _⟩ => ⟨S1024x6144, .f32⟩
  | .hbm, ⟨39, _⟩ => ⟨S1024x6144, .bf16⟩
  | .hbm, ⟨40, _⟩ => ⟨S1x3072x1024, .f32⟩
  | .hbm, ⟨41, _⟩ => ⟨S3072x1024, .f32⟩
  | .hbm, ⟨42, _⟩ => ⟨S3072x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S2x1024x3584 : Shape := ⟨3, ![2, 1024, 3584]⟩
abbrev S1x1024 : Shape := ⟨2, ![1, 1024]⟩
abbrev S1024x3584 : Shape := ⟨2, ![1024, 3584]⟩
abbrev S1024x1024 : Shape := ⟨2, ![1024, 1024]⟩
abbrev S1x64x3584 : Shape := ⟨3, ![1, 64, 3584]⟩
abbrev S64x3584 : Shape := ⟨2, ![64, 3584]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2x1024x3584, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .hbm, ⟨10, _⟩ => ⟨S1024x3584, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1x64x3584, .f32⟩
  | .local _ .vmem, ⟨7, _⟩ => ⟨S1x64x3584, .f32⟩
  | .local _ .vmem, ⟨8, _⟩ => ⟨S1024x1024, .f32⟩
  | .local _ .vmem, ⟨9, _⟩ => ⟨S1024x1024, .f32⟩
  | .local _ .vmem, ⟨10, _⟩ => ⟨S64x3584, .bf16⟩
  | .local _ .vmem, ⟨11, _⟩ => ⟨S64x3584, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S2x1024x3584 : Shape := ⟨3, ![2, 1024, 3584]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x1024x3584 : Shape := ⟨3, ![1, 1024, 3584]⟩
abbrev S1024x3584 : Shape := ⟨2, ![1024, 3584]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2x1024x3584, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S1x1024x3584, .f32⟩
  | .hbm, ⟨29, _⟩ => ⟨S1024x3584, .f32⟩
  | .hbm, ⟨30, _⟩ => ⟨S1024x3584, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3584 : Shape := ⟨2, ![1024, 3584]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S16384x2048 : Shape := ⟨2, ![16384, 2048]⟩
abbrev S16384x1536 : Shape := ⟨2, ![16384, 1536]⟩
abbrev S1024x1024 : Shape := ⟨2, ![1024, 1024]⟩
abbrev S1024x4096 : Shape := ⟨2, ![1024, 4096]⟩
abbrev S4096x1024 : Shape := ⟨2, ![4096, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S1024x2048 : Shape := ⟨2, ![1024, 2048]⟩
abbrev S1024x1536 : Shape := ⟨2, ![1024, 1536]⟩
abbrev S64x1024 : Shape := ⟨2, ![64, 1024]⟩
abbrev S64x4096 : Shape := ⟨2, ![64, 4096]⟩
abbrev S256x1024 : Shape := ⟨2, ![256, 1024]⟩
abbrev S1024x1 : Shape := ⟨2, ![1024, 1]⟩
abbrev S1024x512 : Shape := ⟨2, ![1024, 512]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S1024x3584, .bf16⟩
  | .hbm, ⟨8, _⟩ => ⟨S16384x2048, .f32⟩
  | .hbm, ⟨9, _⟩ => ⟨S16384x1536, .bf16⟩
  | .hbm, ⟨10, _⟩ => ⟨S1024x1024, .bf16⟩
  | .hbm, ⟨11, _⟩ => ⟨S1024x4096, .bf16⟩
  | .hbm, ⟨12, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x4096, .f32⟩
  | .local _ .vmem, ⟨7, _⟩ => ⟨S1x64x4096, .f32⟩
  | .local _ .vmem, ⟨8, _⟩ => ⟨S1x256x1024, .f32⟩
  | .local _ .vmem, ⟨9, _⟩ => ⟨S1x256x1024, .f32⟩
  | .local _ .vmem, ⟨10, _⟩ => ⟨S1024x2048, .f32⟩
  | .local _ .vmem, ⟨11, _⟩ => ⟨S1024x2048, .f32⟩
  | .local _ .vmem, ⟨12, _⟩ => ⟨S1024x1536, .bf16⟩
  | .local _ .vmem, ⟨13, _⟩ => ⟨S1024x1536, .bf16⟩
  | .local _ .vmem, ⟨14, _⟩ => ⟨S64x1024, .bf16⟩
  | .local _ .vmem, ⟨15, _⟩ => ⟨S64x1024, .bf16⟩
  | .local _ .vmem, ⟨16, _⟩ => ⟨S64x4096, .bf16⟩
  | .local _ .vmem, ⟨17, _⟩ => ⟨S64x4096, .bf16⟩
  | .local _ .vmem, ⟨18, _⟩ => ⟨S256x1024, .bf16⟩
  | .local _ .vmem, ⟨19, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "sb_scale" => some (((Real.sqrt 128)⁻¹ * (Real.log 2)⁻¹ : ℝ) : EReal)
  | _ => none
-- ==== Reference5Ideal.lean ====
abbrev S16384x1024 : Shape := ⟨2, ![16384, 1024]⟩
abbrev S1024 : Shape := ⟨1, ![1024]⟩
abbrev S1024x3584 : Shape := ⟨2, ![1024, 3584]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩
abbrev S16384x512 : Shape := ⟨2, ![16384, 512]⟩
abbrev S16384x1536 : Shape := ⟨2, ![16384, 1536]⟩
abbrev S16384x2048 : Shape := ⟨2, ![16384, 2048]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3584, .f32⟩
  | .hbm, ⟨23, _⟩ => ⟨S16384x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S16384x1536, .f32⟩
  | .hbm, ⟨36, _⟩ => ⟨S16384x2048, .f32⟩
  | .hbm, ⟨37, _⟩ => ⟨S16384x1536, .bf16⟩
  | .hbm, ⟨38, _⟩ => ⟨S1x1024x1024, .f32⟩
  | .hbm, ⟨39, _⟩ => ⟨S1024x1024, .f32⟩
  | .hbm, ⟨40, _⟩ => ⟨S1024x1024, .bf16⟩
  | .hbm, ⟨41, _⟩ => ⟨S1x1024x4096, .f32⟩
  | .hbm, ⟨42, _⟩ => ⟨S1024x4096, .f32⟩
  | .hbm, ⟨43, _⟩ => ⟨S1024x4096, .bf16⟩
  | .hbm, ⟨44, _⟩ => ⟨S1x4096x1024, .f32⟩
  | .hbm, ⟨45, _⟩ => ⟨S4096x1024, .f32⟩
  | .hbm, ⟨46, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x6144 : Shape := ⟨2, ![1024, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1x3072 : Shape := ⟨2, ![1, 3072]⟩
abbrev S8x128x1 : Shape := ⟨3, ![8, 128, 1]⟩
abbrev S1024x4096 : Shape := ⟨2, ![1024, 4096]⟩
abbrev S4096x1024 : Shape := ⟨2, ![4096, 1024]⟩
abbrev S512x1024 : Shape := ⟨2, ![512, 1024]⟩
abbrev S1x32x4096 : Shape := ⟨3, ![1, 32, 4096]⟩
abbrev S1x128x1024 : Shape := ⟨3, ![1, 128, 1024]⟩
abbrev S32x4096 : Shape := ⟨2, ![32, 4096]⟩
abbrev S128x1024 : Shape := ⟨2, ![128, 1024]⟩
abbrev S512x3072 : Shape := ⟨2, ![512, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S128x128 : Shape := ⟨2, ![128, 128]⟩
abbrev S1024x768 : Shape := ⟨2, ![1024, 768]⟩
abbrev S512x768 : Shape := ⟨2, ![512, 768]⟩
abbrev S1x128x128 : Shape := ⟨3, ![1, 128, 128]⟩
abbrev S128x768 : Shape := ⟨2, ![128, 768]⟩
abbrev S128x1 : Shape := ⟨2, ![128, 1]⟩
abbrev S1x768 : Shape := ⟨2, ![1, 768]⟩
abbrev S128x384 : Shape := ⟨2, ![128, 384]⟩
abbrev S1x128x1 : Shape := ⟨3, ![1, 128, 1]⟩
abbrev S768x1024 : Shape := ⟨2, ![768, 1024]⟩

abbrev nBuf : Space → Nat
  | .hbm => 19
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S3072, .f32⟩
  | .hbm, ⟨4, _⟩ => ⟨S3072, .f32⟩
  | .hbm, ⟨5, _⟩ => ⟨S8x128x128, .f32⟩
  | .hbm, ⟨6, _⟩ => ⟨S8x128, .f32⟩
  | .hbm, ⟨7, _⟩ => ⟨S3072x1024, .f32⟩
  | .hbm, ⟨8, _⟩ => ⟨S4x1024x4096, .f32⟩
  | .hbm, ⟨9, _⟩ => ⟨S4x4096x1024, .f32⟩
  | .hbm, ⟨10, _⟩ => ⟨S1x1024, .f32⟩
  | .hbm, ⟨11, _⟩ => ⟨S1024x6144, .bf16⟩
  | .hbm, ⟨12, _⟩ => ⟨S1x3072, .f32⟩
  | .hbm, ⟨13, _⟩ => ⟨S1x3072, .f32⟩
  | .hbm, ⟨14, _⟩ => ⟨S8x128x1, .f32⟩
  | .hbm, ⟨15, _⟩ => ⟨S3072x1024, .bf16⟩
  | .hbm, ⟨16, _⟩ => ⟨S16384x1024, .f32⟩
  | .hbm, ⟨17, _⟩ => ⟨S1024x4096, .bf16⟩
  | .hbm, ⟨18, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1x3072, .f32⟩
  | .local _ .vmem, ⟨5, _⟩ => ⟨S1x3072, .f32⟩
  | .local _ .vmem, ⟨6, _⟩ => ⟨S8x128x128, .f32⟩
  | .local _ .vmem, ⟨7, _⟩ => ⟨S8x128x1, .f32⟩
  | .local _ .vmem, ⟨8, _⟩ => ⟨S3072x1024, .bf16⟩
  | .local _ .vmem, ⟨9, _⟩ => ⟨S1x32x4096, .f32⟩
  | .local _ .vmem, ⟨10, _⟩ => ⟨S1x32x4096, .f32⟩
  | .local _ .vmem, ⟨11, _⟩ => ⟨S1x128x1024, .f32⟩
  | .local _ .vmem, ⟨12, _⟩ => ⟨S1x128x1024, .f32⟩
  | .local _ .vmem, ⟨13, _⟩ => ⟨S512x1024, .f32⟩
  | .local _ .vmem, ⟨14, _⟩ => ⟨S512x1024, .f32⟩
  | .local _ .vmem, ⟨15, _⟩ => ⟨S32x4096, .bf16⟩
  | .local _ .vmem, ⟨16, _⟩ => ⟨S32x4096, .bf16⟩
  | .local _ .vmem, ⟨17, _⟩ => ⟨S128x1024, .bf16⟩
  | .local _ .vmem, ⟨18, _⟩ => ⟨S128x1024, .bf16⟩
  | .local _ .vmem, ⟨19, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel6Ideal.lean ====
variable {F : FTy → Type} [FloatOps F] [Named F]
def κ : String → Option EReal := fun
  | "inv_half" => some ((1 / 3072 : ℝ) : EReal)
  | "inv_sqrt2" => some (((Real.sqrt 2)⁻¹ : ℝ) : EReal)
  | _ => none
-- ==== Reference6Ideal.lean ====
abbrev S16384x1024 : Shape := ⟨2, ![16384, 1024]⟩
abbrev S1024 : Shape := ⟨1, ![1024]⟩
abbrev S1024x6144 : Shape := ⟨2, ![1024, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S4x1024x4096 : Shape := ⟨3, ![4, 1024, 4096]⟩
abbrev S4x4096x1024 : Shape := ⟨3, ![4, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x3072 : Shape := ⟨2, ![16384, 3072]⟩
abbrev S1x3072 : Shape := ⟨2, ![1, 3072]⟩
abbrev S128x128x8x384 : Shape := ⟨4, ![128, 128, 8, 384]⟩
abbrev S128x128 : Shape := ⟨2, ![128, 128]⟩
abbrev S1x128x128 : Shape := ⟨3, ![1, 128, 128]⟩
abbrev S8x128x384x128 : Shape := ⟨4, ![8, 128, 384, 128]⟩
abbrev S128x8 : Shape := ⟨2, ![128, 8]⟩
abbrev S1x128x8x1 : Shape := ⟨4, ![1, 128, 8, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S3072, .f32⟩
  | .hbm, ⟨4, _⟩ => ⟨S3072, .f32⟩
  | .hbm, ⟨5, _⟩ => ⟨S8x128x128, .f32⟩
  | .hbm, ⟨6, _⟩ => ⟨S8x128, .f32⟩
  | .hbm, ⟨7, _⟩ => ⟨S3072x1024, .f32⟩
  | .hbm, ⟨8, _⟩ => ⟨S4x1024x4096, .f32⟩
  | .hbm, ⟨9, _⟩ => ⟨S4x4096x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x6144, .f32⟩
  | .hbm, ⟨27, _⟩ => ⟨S_, .f32⟩
  | .hbm, ⟨28, _⟩ => ⟨S16384x6144, .f32⟩
  | .hbm, ⟨29, _⟩ => ⟨S16384x6144, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384x6144, .f32⟩
  | .hbm, ⟨34, _⟩ => ⟨S16384x6144, .f32⟩
  | .hbm, ⟨35, _⟩ => ⟨S16384x6144, .f32⟩
  | .hbm, ⟨36, _⟩ => ⟨S_, .f32⟩
  | .hbm, ⟨37, _⟩ => ⟨S16384x6144, .f32⟩
  | .hbm, ⟨38, _⟩ => ⟨S16384x6144, .f32⟩
  | .hbm, ⟨39, _⟩ => ⟨S16384x6144, .f32⟩
  | .hbm, ⟨40, _⟩ => ⟨S16384x3072, .f32⟩
  | .hbm, ⟨41, _⟩ => ⟨S16384x3072, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x3072, .f32⟩
  | .hbm, ⟨49, _⟩ => ⟨S16384x3072, .f32⟩
  | .hbm, ⟨50, _⟩ => ⟨S16384x3072, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x3072, .f32⟩
  | .hbm, ⟨62, _⟩ => ⟨S16384x3072, .f32⟩
  | .hbm, ⟨63, _⟩ => ⟨S1x3072, .f32⟩
  | .hbm, ⟨64, _⟩ => ⟨S16384x3072, .f32⟩
  | .hbm, ⟨65, _⟩ => ⟨S16384x3072, .f32⟩
  | .hbm, ⟨66, _⟩ => ⟨S1x3072, .f32⟩
  | .hbm, ⟨67, _⟩ => ⟨S16384x3072, .f32⟩
  | .hbm, ⟨68, _⟩ => ⟨S16384x3072, .f32⟩
  | .hbm, ⟨69, _⟩ => ⟨S128x128x8x384, .f32⟩
  | .hbm, ⟨70, _⟩ => ⟨S_, .f32⟩
  | .hbm, ⟨71, _⟩ => ⟨S128x128, .f32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S_, .f32⟩
  | .hbm, ⟨79, _⟩ => ⟨S128x128, .f32⟩
  | .hbm, ⟨80, _⟩ => ⟨S128x128, .f32⟩
  | .hbm, ⟨81, _⟩ => ⟨S1x128x128, .f32⟩
  | .hbm, ⟨82, _⟩ => ⟨S8x128x128, .f32⟩
  | .hbm, ⟨83, _⟩ => ⟨S8x128x128, .f32⟩
  | .hbm, ⟨84, _⟩ => ⟨S8x128x384x128, .f32⟩
  | .hbm, ⟨85, _⟩ => ⟨S128x128x8x384, .f32⟩
  | .hbm, ⟨86, _⟩ => ⟨S128x8, .f32⟩
  | .hbm, ⟨87, _⟩ => ⟨S1x128x8x1, .f32⟩
  | .hbm, ⟨88, _⟩ => ⟨S128x128x8x384, .f32⟩
  | .hbm, ⟨89, _⟩ => ⟨S128x128x8x384, .f32⟩
  | .hbm, ⟨90, _⟩ => ⟨S16384x3072, .f32⟩
  | .hbm, ⟨91, _⟩ => ⟨S16384x3072, .f32⟩
  | .hbm, ⟨92, _⟩ => ⟨S16384x1024, .f32⟩
  | .hbm, ⟨93, _⟩ => ⟨S16384x1024, .f32⟩
  | .hbm, ⟨94, _⟩ => ⟨S1x1024x4096, .f32⟩
  | .hbm, ⟨95, _⟩ => ⟨S1024x4096, .f32⟩
  | .hbm, ⟨96, _⟩ => ⟨S1024x4096, .bf16⟩
  | .hbm, ⟨97, _⟩ => ⟨S1x4096x1024, .f32⟩
  | .hbm, ⟨98, _⟩ => ⟨S4096x1024, .f32⟩
  | .hbm, ⟨99, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_cst : Ref sig .tc := ⟨.hbm, 78, rfl⟩
abbrev main_call0_v5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.KernelIdeal.Cond.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the kernel's conditional on the exponents' span, from the values it is computed from. -/
def spanCond (v163 : FVec F S128x512 .f32) (v214 : FVec F S128x512 .f32) (v265 : FVec F S128x512 .f32) (v316 : FVec F S128x512 .f32) (v367 : FVec F S128x512 .f32) (v418 : FVec F S128x512 .f32) (v451 : F .f32) (v453 : FVec F S1x128x512 .f32) : Prop :=
  (Scalar.cmpi .ne (Scalar.extui (Scalar.cmpf .olt (k0_pay486 v163 v214 v265 v316 v367 v418 v451 v453) (Scalar.ofBits .f32 0x42C80000#32 : F .f32))) 0#32) = 1#1

instance (v163 : FVec F S128x512 .f32) (v214 : FVec F S128x512 .f32) (v265 : FVec F S128x512 .f32) (v316 : FVec F S128x512 .f32) (v367 : FVec F S128x512 .f32) (v418 : FVec F S128x512 .f32) (v451 : F .f32) (v453 : FVec F S1x128x512 .f32) : Decidable (spanCond v163 v214 v265 v316 v367 v418 v451 v453) := inferInstanceAs (Decidable (_ = _))

variable (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x256 .bf16) (harg8 : arg8.IsWhole) (arg9 : Memref sig .tc .vmem S768x256 .bf16) (harg9 : arg9.IsWhole) (arg10 : Memref sig .tc .vmem S128x128 .i32) (harg10 : arg10.IsWhole) (arg11 : Memref sig .tc .vmem S1024x512 .bf16) (harg11 : arg11.IsWhole) (arg12 : Memref sig .tc .vmem S4x128x128 .f32) (harg12 : arg12.IsWhole) (v14 : IVec S128x1 32) (v17 : IVec S128x128 1) (v21 : IVec S128x128 1) (v23 : IVec S128x128 1) (v25 : IVec S128x128 1) (v27 : IVec S128x128 1) (v29 : IVec S128x128 1) (v31 : IVec S128x128 1) (v34 : IVec S128x128 1) (v51 : FVec F S128x512 .f32) (v54 : FVec F S128x512 .f32) (v59 : FVec F S256x512 .bf16) (v61 : FVec F S128x512 .f32) (v102 : FVec F S128x512 .f32) (v105 : FVec F S128x512 .f32) (v110 : FVec F S256x512 .bf16) (v112 : FVec F S128x512 .f32) (v153 : FVec F S128x512 .f32) (v156 : FVec F S128x512 .f32) (v161 : FVec F S256x512 .bf16) (v163 : FVec F S128x512 .f32) (v204 : FVec F S128x512 .f32) (v207 : FVec F S128x512 .f32) (v212 : FVec F S256x512 .bf16) (v214 : FVec F S128x512 .f32) (v255 : FVec F S128x512 .f32) (v258 : FVec F S128x512 .f32) (v263 : FVec F S256x512 .bf16) (v265 : FVec F S128x512 .f32) (v306 : FVec F S128x512 .f32) (v309 : FVec F S128x512 .f32) (v314 : FVec F S256x512 .bf16) (v316 : FVec F S128x512 .f32) (v357 : FVec F S128x512 .f32) (v360 : FVec F S128x512 .f32) (v365 : FVec F S256x512 .bf16) (v367 : FVec F S128x512 .f32) (v408 : FVec F S128x512 .f32) (v411 : FVec F S128x512 .f32) (v416 : FVec F S256x512 .bf16) (v418 : FVec F S128x512 .f32) (v451 : F .f32) (v453 : FVec F S1x128x512 .f32)

-- the run's proof term is large
set_option maxHeartbeats 1000000 in
/-- The part of the body with the conditional, when the span is small: what it returns, found by the run. -/
def condT (c : Dev nD) (x7 : Vec F S768x256 .bf16) : { v : Σ' (v497_2 : FVec F S128x128 .f32) (v497_3 : FVec F S128x128 .f32) (v497_4 : FVec F S128x128 .f32) (v497_5 : FVec F S128x128 .f32) (v497_6 : FVec F S128x128 .f32) (v497_7 : FVec F S128x128 .f32) (v497_8 : FVec F S128x128 .f32) (v497_9 : FVec F S128x128 .f32) (v497_10 : FVec F S128x128 .f32) (v497_11 : FVec F S128x128 .f32) (v497_12 : FVec F S128x128 .f32) (v497_13 : FVec F S128x128 .f32) (v497_14 : FVec F S128x128 .f32) (v497_15 : FVec F S128x128 .f32) (v497_16 : FVec F S128x128 .f32) (v497_17 : FVec F S128x128 .f32) (v497_18 : FVec F S128x128 .f32) (v497_19 : FVec F S128x128 .f32) (v497_20 : FVec F S128x128 .f32) (v497_21 : FVec F S128x128 .f32) (v497_22 : FVec F S128x128 .f32) (v497_23 : FVec F S128x128 .f32) (v497_24 : FVec F S128x128 .f32) (v497_25 : FVec F S128x128 .f32) (v497_26 : FVec F S128x128 .f32) (v497_27 : FVec F S128x128 .f32) (v497_28 : FVec F S128x128 .f32) (v497_29 : FVec F S128x128 .f32) (v497_30 : FVec F S128x128 .f32) (v497_31 : FVec F S128x128 .f32) (v499 : FVec F S128x128 .f32) (v501 : FVec F S128x128 .f32), F .f32 // ∀ (_ : spanCond v163 v214 v265 v316 v367 v418 v451 v453) (E : Set ℕ) (K : _ → sProp 𝕄),
      iprop(owns (c : Thread nD τ) arg9 fullShare x7 ∗ (owns (c : Thread nD τ) arg9 fullShare x7 -∗ K v))
        ⊢ wp frame (wpE (defs₀ (F := F)) Variants.none c none) E (k0_part47 i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453) K } := by
  refine ⟨?_, fun hs E K => ?run⟩
  case run =>
    unfold spanCond at hs
    simp only [k0_part47_eq_skeleton]; unfold k0_part47_skel
    simp only [k0_part1_eq_skeleton, k0_part2_eq_skeleton, k0_part3_eq_skeleton]
    unfold owns
    iintro ⟨⟨%f7, %hf7, H7⟩, Hk⟩
    obtain rfl := harg9.eq_unread hf7
    sl_exec (disch := first | sl_exact hs)
    sl_step
    iapply Hk
    iexists _; isplitr; · ipureintro; exact harg9.read_unread _
    iexact H7

set_option maxHeartbeats 1000000 in
/-- The same when the span is not small: the levels one by one. -/
def condF (c : Dev nD) (x7 : Vec F S768x256 .bf16) : { v : Σ' (v497_2 : FVec F S128x128 .f32) (v497_3 : FVec F S128x128 .f32) (v497_4 : FVec F S128x128 .f32) (v497_5 : FVec F S128x128 .f32) (v497_6 : FVec F S128x128 .f32) (v497_7 : FVec F S128x128 .f32) (v497_8 : FVec F S128x128 .f32) (v497_9 : FVec F S128x128 .f32) (v497_10 : FVec F S128x128 .f32) (v497_11 : FVec F S128x128 .f32) (v497_12 : FVec F S128x128 .f32) (v497_13 : FVec F S128x128 .f32) (v497_14 : FVec F S128x128 .f32) (v497_15 : FVec F S128x128 .f32) (v497_16 : FVec F S128x128 .f32) (v497_17 : FVec F S128x128 .f32) (v497_18 : FVec F S128x128 .f32) (v497_19 : FVec F S128x128 .f32) (v497_20 : FVec F S128x128 .f32) (v497_21 : FVec F S128x128 .f32) (v497_22 : FVec F S128x128 .f32) (v497_23 : FVec F S128x128 .f32) (v497_24 : FVec F S128x128 .f32) (v497_25 : FVec F S128x128 .f32) (v497_26 : FVec F S128x128 .f32) (v497_27 : FVec F S128x128 .f32) (v497_28 : FVec F S128x128 .f32) (v497_29 : FVec F S128x128 .f32) (v497_30 : FVec F S128x128 .f32) (v497_31 : FVec F S128x128 .f32) (v499 : FVec F S128x128 .f32) (v501 : FVec F S128x128 .f32), F .f32 // ∀ (_ : ¬ spanCond v163 v214 v265 v316 v367 v418 v451 v453) (E : Set ℕ) (K : _ → sProp 𝕄),
      iprop(owns (c : Thread nD τ) arg9 fullShare x7 ∗ (owns (c : Thread nD τ) arg9 fullShare x7 -∗ K v))
        ⊢ wp frame (wpE (defs₀ (F := F)) Variants.none c none) E (k0_part47 i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453) K } := by
  refine ⟨?_, fun hs E K => ?run⟩
  case run =>
    unfold spanCond at hs
    simp only [k0_part47_eq_skeleton]; unfold k0_part47_skel
    simp only [k0_part36_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold k0_part36_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f7, %hf7, H7⟩, Hk⟩
    obtain rfl := harg9.eq_unread hf7
    sl_exec (disch := first | sl_exact hs)
    sl_step
    iapply Hk
    iexists _; isplitr; · ipureintro; exact harg9.read_unread _
    iexact H7

/-- The part of the body with the conditional: what it returns under either answer. -/
def condRun (c : Dev nD) (x7 : Vec F S768x256 .bf16) : { v : Σ' (v497_2 : FVec F S128x128 .f32) (v497_3 : FVec F S128x128 .f32) (v497_4 : FVec F S128x128 .f32) (v497_5 : FVec F S128x128 .f32) (v497_6 : FVec F S128x128 .f32) (v497_7 : FVec F S128x128 .f32) (v497_8 : FVec F S128x128 .f32) (v497_9 : FVec F S128x128 .f32) (v497_10 : FVec F S128x128 .f32) (v497_11 : FVec F S128x128 .f32) (v497_12 : FVec F S128x128 .f32) (v497_13 : FVec F S128x128 .f32) (v497_14 : FVec F S128x128 .f32) (v497_15 : FVec F S128x128 .f32) (v497_16 : FVec F S128x128 .f32) (v497_17 : FVec F S128x128 .f32) (v497_18 : FVec F S128x128 .f32) (v497_19 : FVec F S128x128 .f32) (v497_20 : FVec F S128x128 .f32) (v497_21 : FVec F S128x128 .f32) (v497_22 : FVec F S128x128 .f32) (v497_23 : FVec F S128x128 .f32) (v497_24 : FVec F S128x128 .f32) (v497_25 : FVec F S128x128 .f32) (v497_26 : FVec F S128x128 .f32) (v497_27 : FVec F S128x128 .f32) (v497_28 : FVec F S128x128 .f32) (v497_29 : FVec F S128x128 .f32) (v497_30 : FVec F S128x128 .f32) (v497_31 : FVec F S128x128 .f32) (v499 : FVec F S128x128 .f32) (v501 : FVec F S128x128 .f32), F .f32 // ∀ (E : Set ℕ) (K : _ → sProp 𝕄),
      iprop(owns (c : Thread nD τ) arg9 fullShare x7 ∗ (owns (c : Thread nD τ) arg9 fullShare x7 -∗ K v))
        ⊢ wp frame (wpE (defs₀ (F := F)) Variants.none c none) E (k0_part47 i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453) K } :=
  ⟨if spanCond v163 v214 v265 v316 v367 v418 v451 v453 then (condT i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453 c x7).1 else (condF i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453 c x7).1, fun E K => by
    by_cases hs : spanCond v163 v214 v265 v316 v367 v418 v451 v453
    · rw [if_pos hs]; exact (condT i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453 c x7).2 hs E K
    · rw [if_neg hs]; exact (condF i arg2 harg2 arg3 harg3 arg4 harg4 arg5 harg5 arg6 harg6 arg7 harg7 arg8 harg8 arg9 harg9 arg10 harg10 arg11 harg11 arg12 harg12 v14 v17 v21 v23 v25 v27 v29 v31 v34 v51 v54 v59 v61 v102 v105 v110 v112 v153 v156 v161 v163 v204 v207 v212 v214 v255 v258 v263 v265 v306 v309 v314 v316 v357 v360 v365 v367 v408 v411 v416 v418 v451 v453 c x7).2 hs E K⟩

end Cert.KernelIdeal.Hand

end
-- ==== Proof.KernelIdeal.RunA.lean ====
module

public import proofs.«01_k».proof.Proof.KernelIdeal.Cond

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 9, through which its contents are stated (`View.read_writes_of_cover`: the
    choice does not matter). -/
abbrev VO0_9 : View sig .tc .vmem S1024x512 .bf16 := (Memref.whole cc0_stg9_0 : Memref sig .tc .vmem S1024x512 .bf16).view
/-- Each window's current staging memref at point `t`, spelled as the pipeline passes it (`bodyAt0`), and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x128x128 .f32 := Memref.whole cc0_scratch0
/-- The scratch `arg12` the kernel carries between points, as a view: what it holds is stated through it. -/
abbrev VS0_0 : View sig .tc .vmem S4x128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x256 .bf16) (harg8 : arg8.IsWhole) (arg9 : Memref sig .tc .vmem S768x256 .bf16) (harg9 : arg9.IsWhole) (arg10 : Memref sig .tc .vmem S128x128 .i32) (harg10 : arg10.IsWhole) (arg11 : Memref sig .tc .vmem S1024x512 .bf16) (harg11 : arg11.IsWhole) (arg12 : Memref sig .tc .vmem S4x128x128 .f32) (harg12 : arg12.IsWhole)

-- the run's proof term is large
set_option maxHeartbeats 2000000 in
/-- The body at a first step (the state is set to zero): the pieces that its stores leave in the output block and in the state, and the run that finds them. -/
def runA (hc0 : cond0_0 i) (x0 : Vec F S1024x512 .f32) (x1 : Vec F S1024x512 .f32) (x2 : Vec F S1024x512 .f32) (x3 : Vec F S1024x512 .f32) (x4 : Vec F S2x512 .f32) (x5 : Vec F S1x512 .f32) (x6 : Vec F S512x256 .bf16) (x7 : Vec F S768x256 .bf16) (x8 : Vec F S128x128 .i32) :
    Σ' (L9 : List (View.Piece (Elt F) S1024x512 .bf16)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_hgrn2_mix i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_hgrn2_mix_eq_skeleton]; unfold cc0_hgrn2_mix_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold k0_part72_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    obtain ⟨p47, hp47⟩ : ∃ p, p = k0_part47 (F := F) := ⟨_, rfl⟩
    rw [← hp47]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    rw [hp47]
    repeat rw [wp_bind]
    iapply (condRun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c x7).2
    isplitl [H7]
    · unfold owns; iexists _; isplitr; · ipureintro; exact harg9.read_unread _
      iexact H7
    unfold owns
    iintro ⟨%f7', %hf7', H7⟩
    obtain rfl := harg9.eq_unread hf7'
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.KernelIdeal.RunB.lean ====
module

public import proofs.«01_k».proof.Proof.KernelIdeal.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x256 .bf16) (harg8 : arg8.IsWhole) (arg9 : Memref sig .tc .vmem S768x256 .bf16) (harg9 : arg9.IsWhole) (arg10 : Memref sig .tc .vmem S128x128 .i32) (harg10 : arg10.IsWhole) (arg11 : Memref sig .tc .vmem S1024x512 .bf16) (harg11 : arg11.IsWhole) (arg12 : Memref sig .tc .vmem S4x128x128 .f32) (harg12 : arg12.IsWhole)

-- the run's proof term is large
set_option maxHeartbeats 2000000 in
/-- The body at a later step (the state as the step before left it). -/
def runB (hc0 : ¬ cond0_0 i) (x0 : Vec F S1024x512 .f32) (x1 : Vec F S1024x512 .f32) (x2 : Vec F S1024x512 .f32) (x3 : Vec F S1024x512 .f32) (x4 : Vec F S2x512 .f32) (x5 : Vec F S1x512 .f32) (x6 : Vec F S512x256 .bf16) (x7 : Vec F S768x256 .bf16) (x8 : Vec F S128x128 .i32) (xs : Vec F S4x128x128 .f32) :
    Σ' (L9 : List (View.Piece (Elt F) S1024x512 .bf16)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_hgrn2_mix i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_hgrn2_mix_eq_skeleton]; unfold cc0_hgrn2_mix_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold k0_part72_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    obtain ⟨p47, hp47⟩ : ∃ p, p = k0_part47 (F := F) := ⟨_, rfl⟩
    rw [← hp47]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | sl_exact hc0)
    rw [hp47]
    repeat rw [wp_bind]
    iapply (condRun _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c x7).2
    isplitl [H7]
    · unfold owns; iexists _; isplitr; · ipureintro; exact harg9.read_unread _
      iexact H7
    unfold owns
    iintro ⟨%f7', %hf7', H7⟩
    obtain rfl := harg9.eq_unread hf7'
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.KernelIdeal.Frame.lean ====
module

public import proofs.«01_k».proof.Proof.KernelIdeal.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x256 .bf16) (harg8 : arg8.IsWhole) (arg9 : Memref sig .tc .vmem S768x256 .bf16) (harg9 : arg9.IsWhole) (arg10 : Memref sig .tc .vmem S128x128 .i32) (harg10 : arg10.IsWhole) (arg11 : Memref sig .tc .vmem S1024x512 .bf16) (harg11 : arg11.IsWhole) (arg12 : Memref sig .tc .vmem S4x128x128 .f32) (harg12 : arg12.IsWhole) (hc0 : cond0_0 i) (x0 x1 x2 x3 : Vec F S1024x512 .f32) (x4 : Vec F S2x512 .f32) (x5 : Vec F S1x512 .f32) (x6 : Vec F S512x256 .bf16) (x7 : Vec F S768x256 .bf16) (x8 : Vec F S128x128 .i32)

/-- At a first step the stores cover the output block. -/
theorem cover0_A_9 (y : S1024x512.Idx) :
    ∃ pc ∈ (runA c i arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 hc0 x0 x1 x2 x3 x4 x5 x6 x7 x8).1 S128x128.size (by sl_kernel_rfl) y

/-- What a first step leaves in the output block. -/
def out0_A_9 : Vec F S1024x512 .bf16 :=
  VO0_9.read (Elt F) (VO0_9.writes (Elt F) VO0_9.junk (runA c i arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- At a first step the stores cover the state. -/
theorem scover0_A_0 (y : S4x128x128.Idx) :
    ∃ pc ∈ (runA c i arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_wholeMem (runA c i arg2 harg2 arg3 harg3 arg4 harg4 arg5 harg5 arg6 harg6 arg7 harg7 arg8 harg8 arg9 harg9 arg10 harg10 arg11 harg11 arg12 harg12 hc0 x0 x1 x2 x3 x4 x5 x6 x7 x8).2.1 (by sl_whole_mem) y

/-- What a first step leaves in the state. -/
def sout0_A_0 : Vec F S4x128x128 .f32 :=
  VS0_0.read (Elt F) (VS0_0.writes (Elt F) VS0_0.junk (runA c i arg2 harg2 arg3 harg3 arg4 harg4 arg5 harg5 arg6 harg6 arg7 harg7 arg8 harg8 arg9 harg9 arg10 harg10 arg11 harg11 arg12 harg12 hc0 x0 x1 x2 x3 x4 x5 x6 x7 x8).2.1)

end

section
variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2x512 .f32) (harg6 : arg6.IsWhole) (arg7 : Memref sig .tc .vmem S1x512 .f32) (harg7 : arg7.IsWhole) (arg8 : Memref sig .tc .vmem S512x256 .bf16) (harg8 : arg8.IsWhole) (arg9 : Memref sig .tc .vmem S768x256 .bf16) (harg9 : arg9.IsWhole) (arg10 : Memref sig .tc .vmem S128x128 .i32) (harg10 : arg10.IsWhole) (arg11 : Memref sig .tc .vmem S1024x512 .bf16) (harg11 : arg11.IsWhole) (arg12 : Memref sig .tc .vmem S4x128x128 .f32) (harg12 : arg12.IsWhole) (hc0 : ¬cond0_0 i) (x0 x1 x2 x3 : Vec F S1024x512 .f32) (x4 : Vec F S2x512 .f32) (x5 : Vec F S1x512 .f32) (x6 : Vec F S512x256 .bf16) (x7 : Vec F S768x256 .bf16) (x8 : Vec F S128x128 .i32)

/-- At a later step the stores cover the output block. -/
theorem cover0_B_9 (xs0 : Vec F S4x128x128 .f32) (y : S1024x512.Idx) :
    ∃ pc ∈ (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).1, y ∈ pc.1.set :=
  View.cover_of_tiledL (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).1 S128x128.size (by sl_kernel_rfl) y

/-- What a later step leaves in the output block. -/
def out0_B_9 (xs0 : Vec F S4x128x128 .f32) : Vec F S1024x512 .bf16 :=
  VO0_9.read (Elt F) (VO0_9.writes (Elt F) VO0_9.junk (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).1)

/-- At a later step the stores cover the state. -/
theorem scover0_B_0 (xs0 : Vec F S4x128x128 .f32) (y : S4x128x128.Idx) :
    ∃ pc ∈ (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1, y ∈ pc.1.set :=
  View.cover_of_tiledL (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1 S1x128x128.size (by sl_kernel_rfl) y

/-- What a later step leaves in the state. -/
def sout0_B_0 (xs0 : Vec F S4x128x128 .f32) : Vec F S4x128x128 .f32 :=
  VS0_0.read (Elt F) (VS0_0.writes (Elt F) VS0_0.junk (runB c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1)

end

/-! ## What the outputs hold after each point -/

/-- What the output block and the state hold after the body at position `n`: each step run on its blocks, a later step on the state that the step before left. -/
def outsAt0 (c : Dev nD) : (n : ℕ) → n < cfg0.N → Vec F S1024x512 .bf16 × Vec F S4x128x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What is held before position `n` beside the blocks: the state, at anything before the first step and at what the step before left afterwards, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The data of the pipeline on core `c`: its arrays, what each block holds after each step, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q w := Pipeline.shareOf spec0 w
  owed _ := 0

/-- The arrays are those that the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases hz : t.val = 0
    · rw [PhiS_castSucc m c t, PhiS_zero m c _ _ hz, PhiA0_eq]
      rw [outsAt0_A m c t h0]
      unfold out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      iintro ⟨H0, H1, H2, H3, H4, H5, H6, H7, H8, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _)
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation about the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- The launch: the run ends with the arrays at what the data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Mlp.Spec.lean ====
/- The squared-relu MLP with its residual between two norms, on one row over the extended reals, and the sum over the
   hidden units taken in eight blocks of 512. -/
module

public import Idealize.ShloMosaic.Lib.Pointwise
public import Idealize.ShloMosaic.PureOps

@[expose] public section

noncomputable section

namespace Cert.Mlp

open Idealize.ShloMosaic

/-- The inverse root of a row's mean square, with the norm's epsilon. -/
def inv (x : Fin 1024 → EReal) : EReal :=
  Ideal.rsqrt (Ideal.div (∑ j, x j * x j) (Ideal.ofBits FTy.f32 1149239296#32) + Ideal.ofBits FTy.f32 897988541#32)

/-- A row over its root mean square, times the gain. -/
def norm (x g : Fin 1024 → EReal) (d : Fin 1024) : EReal := x d * inv x * g d

/-- One hidden unit: the square of the rectified product of a row with a column of the first weights. -/
def unit (h col : Fin 1024 → EReal) : EReal := max (∑ d, h d * col d) 0 * max (∑ d, h d * col d) 0

/-- What the MLP makes of a normed row `h`, with the residual `x`. -/
def mlp (x h : Fin 1024 → EReal) (w1 : Fin 1024 → Fin 4096 → EReal) (w2 : Fin 4096 → Fin 1024 → EReal) (e : Fin 1024) : EReal :=
  x e + ∑ j, unit h (fun d => w1 d j) * w2 j e

/-- The layer on one row: the norm, the MLP and the residual. -/
def layer (x g : Fin 1024 → EReal) (w1 : Fin 1024 → Fin 4096 → EReal) (w2 : Fin 4096 → Fin 1024 → EReal) : Fin 1024 → EReal :=
  mlp x (norm x g) w1 w2

/-- The place of term `j` of block `c`. -/
theorem block_lt {a b N : ℕ} (h : N = a * b) (c : Fin a) (j : Fin b) : b * c.val + j.val < N := by
  have h1 := c.isLt
  have h2 := j.isLt
  have h3 : b * (c.val + 1) ≤ b * a := Nat.mul_le_mul_left b h1
  rw [h, Nat.mul_comm a b]
  rw [Nat.mul_succ] at h3
  omega

/-- A sum over `a * b` terms is the sum of its `a` blocks of `b`. -/
theorem sum_blocks {a b N : ℕ} (h : N = a * b) (f : Fin N → EReal) :
    ∑ j, f j = ∑ c : Fin a, ∑ j : Fin b, f ⟨b * c.val + j.val, block_lt h c j⟩ := by
  subst h
  rw [← Fintype.sum_prod_type']
  refine (Fintype.sum_equiv finProdFinEquiv _ _ fun p => ?_).symm
  congr 1
  ext
  simp [finProdFinEquiv, Nat.add_comm]

/-- Eight blocks added to `x` one after the other are `x` plus the whole sum. -/
theorem add_blocks (x : EReal) (f : Fin 4096 → EReal) (g0 g1 g2 g3 g4 g5 g6 g7 : Fin 512 → EReal)
    (h0 : ∀ j, g0 j = f ⟨j.val, by omega⟩) (h1 : ∀ j, g1 j = f ⟨512 + j.val, by omega⟩)
    (h2 : ∀ j, g2 j = f ⟨1024 + j.val, by omega⟩) (h3 : ∀ j, g3 j = f ⟨1536 + j.val, by omega⟩)
    (h4 : ∀ j, g4 j = f ⟨2048 + j.val, by omega⟩) (h5 : ∀ j, g5 j = f ⟨2560 + j.val, by omega⟩)
    (h6 : ∀ j, g6 j = f ⟨3072 + j.val, by omega⟩) (h7 : ∀ j, g7 j = f ⟨3584 + j.val, by omega⟩) :
    x + (∑ j, g0 j) + (∑ j, g1 j) + (∑ j, g2 j) + (∑ j, g3 j) + (∑ j, g4 j) + (∑ j, g5 j) + (∑ j, g6 j) + (∑ j, g7 j)
      = x + ∑ j, f j := by
  rw [sum_blocks (a := 8) (b := 512) rfl, Fin.sum_univ_eight]
  simp only [h0, h1, h2, h3, h4, h5, h6, h7, add_assoc]
  simp only [show ∀ j : Fin 512, (⟨j.val, by omega⟩ : Fin 4096) = ⟨512 * (0 : Fin 8).val + j.val, by simp; omega⟩ from fun j => Fin.ext (by simp)]
  rfl

end Cert.Mlp

end
-- ==== Proof.Mlp.Last.lean ====
/- The last layer's MLP: what one block of rows computes, what the array holds after the run, and that the reference
   computes the same. -/
module

public import proofs.«01_k».proof.Proof.Mlp.Spec
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

noncomputable section

namespace Cert.Kernel2Ideal.Hand

open Cert.Kernel2Ideal Cert.Kernel2Ideal.Gen Idealize.ShloMosaic Idealize.ShloMosaic.TcCoe Idealize.SL.Sem

set_option maxHeartbeats 1000000

section Body

variable (x0 : Vec Ideal S1024x1024 .f32) (x1 : Vec Ideal S1x1024 .f32) (x2 : Vec Ideal S1024x4096 .bf16)
  (x3 : Vec Ideal S4096x1024 .bf16) (x4 : Vec Ideal S1x1024 .f32)

/-- The normed rows of a block. -/
theorem hidden_apply (r d : Fin 1024) :
    k0_pay2 x0 x1 (ix2 r d) = Mlp.norm (fun d => x0 (ix2 r d)) (fun d => x1 (ix2 0 d)) d := by
  pointwise [k0_pay2]
  rfl

/-- The load of a block of rows reads all of it. -/
theorem ld_rows : View.ld x0 r0_0 = x0 := by
  funext y
  idx_vars y
  pointwise

/-- The load of a gain reads all of it. -/
theorem ld_gain : View.ld x1 r0_1 = x1 := by
  funext y
  idx_vars y
  obtain rfl := Fin.eq_zero y0
  pointwise

/-- The eight products with the hidden units' blocks, added to the rows, are the layer. -/
theorem sum_apply (r e : Fin 1024) :
    k0_pay6 (k0_pay9 x0 x1 x2 x3 x4) (k0_pay10 x0 x1 x2 x3 x4) (k0_pay11 x0 x1 x2 x3 x4) (View.ld x3 r0_13)
        (View.ld x2 r0_14) (View.ld x3 r0_15) (View.ld x2 r0_16) (View.ld x3 r0_17) (ix2 r e)
      = Mlp.layer (fun d => x0 (ix2 r d)) (fun d => x1 (ix2 0 d)) (fun d j => x2 (ix2 d j)) (fun j e => x3 (ix2 j e)) e := by
  pointwise [k0_pay6, k0_pay9, k0_pay10, k0_pay11, k0_pay3, k0_pay4, k0_pay5, ld_rows, ld_gain, hidden_apply]
  refine Mlp.add_blocks _ (fun j => Mlp.unit (Mlp.norm (fun d => x0 (ix2 r d)) (fun d => x1 (ix2 0 d)))
    (fun d => x2 (ix2 d j)) * x3 (ix2 j e)) _ _ _ _ _ _ _ _ ?_ ?_ ?_ ?_ ?_ ?_ ?_ ?_ <;> intro j <;> rfl

end Body

variable (m : (ℓ : Loc nD τ sig) → Buf (Elt Ideal) ℓ)

/-- The norm's gain as the kernel finds it. -/
theorem V_gain (c : Dev nD) (e : Fin 1024) : V m c main_v0 (ix2 0 e) = m ((c.tc : Thread nD τ).loc main_arg1) (ix1 e) := by
  unfold V
  simp only [hostOps0]
  after_results_simp
  pointwise

/-- The first weights as the kernel finds them. -/
theorem V_w1 (c : Dev nD) (r : Fin 1024) (e : Fin 4096) : V m c main_v1 (ix2 r e) = m ((c.tc : Thread nD τ).loc main_arg2) (ix2 r e) := by
  unfold V
  simp only [hostOps0]
  after_results_simp
  pointwise

/-- The second weights as the kernel finds them. -/
theorem V_w2 (c : Dev nD) (r : Fin 4096) (e : Fin 1024) : V m c main_v2 (ix2 r e) = m ((c.tc : Thread nD τ).loc main_arg3) (ix2 r e) := by
  unfold V
  simp only [hostOps0]
  after_results_simp
  pointwise

/-- The final norm's gain as the kernel finds it. -/
theorem V_final (c : Dev nD) (e : Fin 1024) : V m c main_v3 (ix2 0 e) = m ((c.tc : Thread nD τ).loc main_arg4) (ix1 e) := by
  unfold V
  simp only [hostOps0]
  after_results_simp
  pointwise

/-- Where the windows' blocks lie: the rows move with the grid, the weights and gains stay. -/
theorem index_rows : ∀ t : Fin cfg0.N, win0_0.index t = ![t.val, 0] := (by decide +kernel : ∀ t : Fin grid0.N, _)
@[inherit_doc index_rows]
theorem index_out : ∀ t : Fin cfg0.N, win0_5.index t = ![t.val, 0] := (by decide +kernel : ∀ t : Fin grid0.N, _)
@[inherit_doc index_rows]
theorem index_gain : ∀ t : Fin cfg0.N, win0_1.index t = ![0, 0] := (by decide +kernel : ∀ t : Fin grid0.N, _)
@[inherit_doc index_rows]
theorem index_w1 : ∀ t : Fin cfg0.N, win0_2.index t = ![0, 0] := (by decide +kernel : ∀ t : Fin grid0.N, _)
@[inherit_doc index_rows]
theorem index_w2 : ∀ t : Fin cfg0.N, win0_3.index t = ![0, 0] := (by decide +kernel : ∀ t : Fin grid0.N, _)
@[inherit_doc index_rows]
theorem index_final : ∀ t : Fin cfg0.N, win0_4.index t = ![0, 0] := (by decide +kernel : ∀ t : Fin grid0.N, _)

/-- Row `r` of block `t` is a row of the array. -/
theorem row_lt (t : Fin cfg0.N) (r : Fin 1024) : 1024 * t.val + r.val < 16384 := by
  have h : t.val < 16 := t.isLt
  omega

theorem rows_blk (c : Dev nD) (t : Fin cfg0.N) (r d : Fin 1024) :
    iblk m c 0 t (ix2 r d) = m ((c.tc : Thread nD τ).loc main_arg0) (ix2 ⟨1024 * t.val + r.val, row_lt t r⟩ d) := by
  unfold iblk
  blk_simp
  rw [V_main_arg0]
  congr 1
  blk_ext [index_rows]

theorem gain_blk (c : Dev nD) (t : Fin cfg0.N) (d : Fin 1024) :
    iblk m c 1 t (ix2 0 d) = m ((c.tc : Thread nD τ).loc main_arg1) (ix1 d) := by
  rw [← V_gain m]
  unfold iblk
  blk_simp
  congr 1
  blk_ext [index_gain]

theorem w1_blk (c : Dev nD) (t : Fin cfg0.N) (d : Fin 1024) (j : Fin 4096) :
    iblk m c 2 t (ix2 d j) = m ((c.tc : Thread nD τ).loc main_arg2) (ix2 d j) := by
  rw [← V_w1 m]
  unfold iblk
  blk_simp
  congr 1
  blk_ext [index_w1]

theorem w2_blk (c : Dev nD) (t : Fin cfg0.N) (j : Fin 4096) (e : Fin 1024) :
    iblk m c 3 t (ix2 j e) = m ((c.tc : Thread nD τ).loc main_arg3) (ix2 j e) := by
  rw [← V_w2 m]
  unfold iblk
  blk_simp
  congr 1
  blk_ext [index_w2]

theorem final_blk (c : Dev nD) (t : Fin cfg0.N) (d : Fin 1024) :
    iblk m c 4 t (ix2 0 d) = m ((c.tc : Thread nD τ).loc main_arg4) (ix1 d) := by
  rw [← V_final m]
  unfold iblk
  blk_simp
  congr 1
  blk_ext [index_final]

theorem out_blk (t : Fin cfg0.N) (r d : Fin 1024) :
    ((win0_5.blk t).view.emb (ix2 r d) : S16384x1024.Idx) = ix2 ⟨1024 * t.val + r.val, row_lt t r⟩ d := by
  blk_ext [index_out]

/-- Entry `(r, e)` of the result: the final norm of the layer on row `r`. -/
def entry (c : Dev nD) (r : Fin 16384) (e : Fin 1024) : EReal :=
  Mlp.norm (Mlp.layer (fun d => m ((c.tc : Thread nD τ).loc main_arg0) (ix2 r d))
      (fun d => m ((c.tc : Thread nD τ).loc main_arg1) (ix1 d)) (fun d j => m ((c.tc : Thread nD τ).loc main_arg2) (ix2 d j))
      (fun j e => m ((c.tc : Thread nD τ).loc main_arg3) (ix2 j e)))
    (fun d => m ((c.tc : Thread nD τ).loc main_arg4) (ix1 d)) e

/-- The result as one array. -/
def result (c : Dev nD) : Buf (Elt Ideal) ((c.tc : Thread nD τ).loc main_v4) :=
  fun i : S16384x1024.Idx => entry m c (i 0) (i 1)

/-- The array that the kernel leaves. -/
theorem arr (c : Dev nD) : (dats m 0 c).arrAt 5 cfg0.N = result m c := by
  refine (dats m 0 c).arrAt_eq_of_covers 5 _ (by decide +kernel) fun t hf y => ?_
  blk_simp
  rw [after0_5]
  frame_out
  idx_vars y
  pointwise [out0_5, k0_pay1, k0_pay7, k0_pay8, ld_rows, ld_gain, sum_apply]
  simp only [rows_blk, gain_blk, w1_blk, w2_blk, final_blk]
  exact (congrArg (result m c) (out_blk t y0 y1)).symm

/-- The kernel runs and leaves the result, its arguments unchanged. -/
theorem run (g : Dev nD → PrngReg) : θ_run defs (onTc (τ := τ) (main (F := Ideal))) ⟨m, fun _ => 0, g⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (arr m c), (h c).2⟩) (Value.run_blocks m g)

end Cert.Kernel2Ideal.Hand

namespace Cert.Reference2Ideal.Hand

open Cert.Reference2Ideal Cert.Reference2Ideal.Gen Idealize.ShloMosaic Idealize.SL.Sem

set_option maxHeartbeats 1000000 in
/-- What the reference computes at an index: the final norm of the layer on the row. -/
theorem result_apply (m : (ℓ : Loc nD τ sig) → Buf (Elt Ideal) ℓ) (c : Dev nD) (r : Fin 16384) (e : Fin 1024) :
    (Value.res_main_v30 m c : S16384x1024.Idx → EReal) (ix2 r e)
      = Mlp.norm (Mlp.layer (fun d => m ((c.tc : Thread nD τ).loc main_arg0) (ix2 r d))
          (fun d => m ((c.tc : Thread nD τ).loc main_arg1) (ix1 d)) (fun d j => m ((c.tc : Thread nD τ).loc main_arg2) (ix2 d j))
          (fun j e => m ((c.tc : Thread nD τ).loc main_arg3) (ix2 j e)))
        (fun d => m ((c.tc : Thread nD τ).loc main_arg4) (ix1 d)) e := by
  pointwise [Value.res_main_v30]
  rfl

end Cert.Reference2Ideal.Hand

end
-- ==== Proof.Mlp.Mix.lean ====
/- The MLP with the mixers' output projection before it: what one block of rows computes, what the arrays hold after the
   run, and that the reference computes the same. -/
module

public import proofs.«01_k».proof.Proof.Mlp.Spec
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

noncomputable section

namespace Cert.Mlp

open Idealize.ShloMosaic

/-- A row with the projection of two mixers' rows added, the first mixer's by the upper half of the weights. -/
def mixed (x : Fin 1024 → EReal) (a b : Fin 512 → EReal) (w : Fin 1024 → Fin 1024 → EReal) (e : Fin 1024) : EReal :=
  x e + (∑ j : Fin 512, a j * w ⟨j.val, by omega⟩ e + ∑ j : Fin 512, b j * w ⟨512 + j.val, by omega⟩ e)

end Cert.Mlp

namespace Cert.Kernel3Ideal.Hand

open Cert.Kernel3Ideal Cert.Kernel3Ideal.Gen Idealize.ShloMosaic Idealize.ShloMosaic.TcCoe Idealize.SL.Sem

set_option maxHeartbeats 1000000

section Body

variable (x0 x1 : Vec Ideal S1024x512 .bf16) (x2 : Vec Ideal S1024x1024 .bf16) (x3 y : Vec Ideal S1024x1024 .f32)
  (x4 : Vec Ideal S1x1024 .f32) (x5 : Vec Ideal S1024x4096 .bf16) (x6 : Vec Ideal S4096x1024 .bf16)

/-- The rows with the mixers' projection added. -/
theorem mixed_apply (r e : Fin 1024) :
    k0_pay4 x3 x0 (View.ld x2 (Rect.unit ![0, 0] ![512, 1024] inb_S1024x1024_S512x1024_0_0)) x1
        (View.ld x2 (Rect.unit ![512, 0] ![512, 1024] inb_S1024x1024_S512x1024_512_0)) (ix2 r e)
      = Mlp.mixed (fun d => x3 (ix2 r d)) (fun j => x0 (ix2 r j)) (fun j => x1 (ix2 r j)) (fun j e => x2 (ix2 j e)) e := by
  pointwise [k0_pay4]
  exact add_assoc _ _ _

/-- The normed rows. -/
theorem hidden_apply (r d : Fin 1024) :
    k0_pay8 (k0_pay5 y) (k0_pay6 x4) (k0_pay7 y) (ix2 r d) = Mlp.norm (fun d => y (ix2 r d)) (fun d => x4 (ix2 0 d)) d := by
  pointwise [k0_pay5, k0_pay6, k0_pay7, k0_pay8]
  rfl

/-- The eight products with the hidden units' blocks, added to the rows, are the layer. -/
theorem sum_apply (r e : Fin 1024) :
    k0_pay1 (k0_pay8 (k0_pay5 y) (k0_pay6 x4) (k0_pay7 y))
        (k0_pay11 (k0_pay8 (k0_pay5 y) (k0_pay6 x4) (k0_pay7 y))
          (k0_pay9 (k0_pay5 y) (k0_pay6 x4) (k0_pay7 y)
            (View.ld x5 (Rect.unit ![0, 0] ![1024, 512] inb_S1024x4096_S1024x512_0_0))
            (View.ld x6 (Rect.unit ![0, 0] ![512, 1024] inb_S4096x1024_S512x1024_0_0))
            (View.ld x5 (Rect.unit ![0, 512] ![1024, 512] inb_S1024x4096_S1024x512_0_512))
            (View.ld x6 (Rect.unit ![512, 0] ![512, 1024] inb_S4096x1024_S512x1024_512_0)))
          (k0_pay10 (k0_pay5 y) (k0_pay6 x4) (k0_pay7 y)
            (View.ld x5 (Rect.unit ![0, 1024] ![1024, 512] inb_S1024x4096_S1024x512_0_1024)))
          (View.ld x6 (Rect.unit ![1024, 0] ![512, 1024] inb_S4096x1024_S512x1024_1024_0))
          (View.ld x5 (Rect.unit ![0, 1536] ![1024, 512] inb_S1024x4096_S1024x512_0_1536))
          (View.ld x6 (Rect.unit ![1536, 0] ![512, 1024] inb_S4096x1024_S512x1024_1536_0))
          (View.ld x5 (Rect.unit ![0, 2048] ![1024, 512] inb_S1024x4096_S1024x512_0_2048))
          (View.ld x6 (Rect.unit ![2048, 0] ![512, 1024] inb_S4096x1024_S512x1024_2048_0))
          (View.ld x5 (Rect.unit ![0, 2560] ![1024, 512] inb_S1024x4096_S1024x512_0_2560))
          (View.ld x6 (Rect.unit ![2560, 0] ![512, 1024] inb_S4096x1024_S512x1024_2560_0)))
        (View.ld x5 (Rect.unit ![0, 3072] ![1024, 512] inb_S1024x4096_S1024x512_0_3072))
        (View.ld x6 (Rect.unit ![3072, 0] ![512, 1024] inb_S4096x1024_S512x1024_3072_0))
        (View.ld x5 (Rect.unit ![0, 3584] ![1024, 512] inb_S1024x4096_S1024x512_0_3584))
        (View.ld x6 (Rect.unit ![3584, 0] ![512, 1024] inb_S4096x1024_S512x1024_3584_0)) (ix2 r e)
      = Mlp.layer (fun d => y (ix2 r d)) (fun d => x4 (ix2 0 d)) (fun d j => x5 (ix2 d j)) (fun j e => x6 (ix2 j e)) e := by
  pointwise [k0_pay1, k0_pay9, k0_pay10, k0_pay11, hidden_apply]
  simp only [k0_pay5]
  pointwise
  refine Mlp.add_blocks _ (fun j => Mlp.unit (Mlp.norm (fun d => y (ix2 r d)) (fun d => x4 (ix2 0 d)))
    (fun d => x5 (ix2 d j)) * x6 (ix2 j e)) _ _ _ _ _ _ _ _ ?_ ?_ ?_ ?_ ?_ ?_ ?_ ?_ <;> intro j <;> rfl

end Body

variable (m : (ℓ : Loc nD τ sig) → Buf (Elt Ideal) ℓ)

/-- The rows a point leaves. -/
theorem out_apply (c : Dev nD) (t : Fin cfg0.N) (r e : Fin 1024) : (outsAt0 m c t).1 (ix2 r e)
    = Mlp.layer (Mlp.mixed (fun d => iblk m c 3 t (ix2 r d)) (fun j => iblk m c 0 t (ix2 r j)) (fun j => iblk m c 1 t (ix2 r j))
        (fun j e => iblk m c 2 t (ix2 j e)))
      (fun d => iblk m c 4 t (ix2 0 d)) (fun d j => iblk m c 5 t (ix2 d j)) (fun j e => iblk m c 6 t (ix2 j e)) e := by
  unfold outsAt0 out0_A_10
  dsimp only [kernelRun0_A]
  dsimp only [kernelRun0_A.sl.r_3, kernelRun0_A.sl.r_6, kernelRun0_A.sl.H10_1]
  frame_out
  refine (sum_apply _ _ _ _ r e).trans ?_
  congr 1
  funext d
  exact mixed_apply _ _ _ _ r d

/-- The slab of the next layer's first weights, rounded. -/
theorem first_apply (c : Dev nD) (t : Fin cfg0.N) (r : Fin 64) (e : Fin 6144) :
    (outsAt0 m c t).2.1 (ix2 r e) = iblk m c 8 t (ix3 0 r e) := by
  unfold outsAt0 out0_A_11
  dsimp only [kernelRun0_A]
  frame_out
  pointwise [k0_pay2]

/-- The slab of the next layer's second weights, rounded. -/
theorem second_apply (c : Dev nD) (t : Fin cfg0.N) (r : Fin 192) (e : Fin 1024) :
    (outsAt0 m c t).2.2 (ix2 r e) = iblk m c 9 t (ix3 0 r e) := by
  unfold outsAt0 out0_A_12
  dsimp only [kernelRun0_A]
  frame_out
  pointwise [k0_pay3]

/-- The norm's gain as the kernel finds it. -/
theorem V_gain (c : Dev nD) (e : Fin 1024) : V m c main_v0 (ix2 0 e) = m ((c.tc : Thread nD τ).loc main_arg4) (ix1 e) := by
  unfold V
  simp only [hostOps0]
  after_results_simp
  pointwise

/-- The MLP's first weights as the kernel finds them. -/
theorem V_w1 (c : Dev nD) (r : Fin 1024) (e : Fin 4096) :
    V m c main_v1 (ix2 r e) = m ((c.tc : Thread nD τ).loc main_arg5) (ix2 r e) := by
  unfold V
  simp only [hostOps0]
  after_results_simp
  pointwise

/-- The MLP's second weights as the kernel finds them. -/
theorem V_w2 (c : Dev nD) (r : Fin 4096) (e : Fin 1024) :
    V m c main_v2 (ix2 r e) = m ((c.tc : Thread nD τ).loc main_arg6) (ix2 r e) := by
  unfold V
  simp only [hostOps0]
  after_results_simp
  pointwise

/-- The mixers' projection as the kernel finds them. -/
theorem V_mix (c : Dev nD) (r : Fin 1024) (e : Fin 1024) :
    V m c main_v4 (ix2 r e) = m ((c.tc : Thread nD τ).loc main_arg2) (ix2 r e) := by
  unfold V
  simp only [hostOps0]
  after_results_simp
  pointwise

/-- Where the windows' blocks lie: the rows and the slabs move with the grid, the layer's weights and gain stay. -/
theorem index_0 : ∀ t : Fin cfg0.N, win0_0.index t = ![t.val, 0] := (by decide +kernel : ∀ t : Fin grid0.N, _)
@[inherit_doc index_0]
theorem index_1 : ∀ t : Fin cfg0.N, win0_1.index t = ![t.val, 0] := (by decide +kernel : ∀ t : Fin grid0.N, _)
@[inherit_doc index_0]
theorem index_2 : ∀ t : Fin cfg0.N, win0_2.index t = ![0, 0] := (by decide +kernel : ∀ t : Fin grid0.N, _)
@[inherit_doc index_0]
theorem index_3 : ∀ t : Fin cfg0.N, win0_3.index t = ![t.val, 0] := (by decide +kernel : ∀ t : Fin grid0.N, _)
@[inherit_doc index_0]
theorem index_4 : ∀ t : Fin cfg0.N, win0_4.index t = ![0, 0] := (by decide +kernel : ∀ t : Fin grid0.N, _)
@[inherit_doc index_0]
theorem index_5 : ∀ t : Fin cfg0.N, win0_5.index t = ![0, 0] := (by decide +kernel : ∀ t : Fin grid0.N, _)
@[inherit_doc index_0]
theorem index_6 : ∀ t : Fin cfg0.N, win0_6.index t = ![0, 0] := (by decide +kernel : ∀ t : Fin grid0.N, _)
@[inherit_doc index_0]
theorem index_8 : ∀ t : Fin cfg0.N, win0_8.index t = ![0, t.val, 0] := (by decide +kernel : ∀ t : Fin grid0.N, _)
@[inherit_doc index_0]
theorem index_9 : ∀ t : Fin cfg0.N, win0_9.index t = ![0, t.val, 0] := (by decide +kernel : ∀ t : Fin grid0.N, _)
@[inherit_doc index_0]
theorem index_10 : ∀ t : Fin cfg0.N, win0_10.index t = ![t.val, 0] := (by decide +kernel : ∀ t : Fin grid0.N, _)
@[inherit_doc index_0]
theorem index_11 : ∀ t : Fin cfg0.N, win0_11.index t = ![t.val, 0] := (by decide +kernel : ∀ t : Fin grid0.N, _)
@[inherit_doc index_0]
theorem index_12 : ∀ t : Fin cfg0.N, win0_12.index t = ![t.val, 0] := (by decide +kernel : ∀ t : Fin grid0.N, _)

/-- Row `r` of block `t` is a row of the array. -/
theorem row_lt {b : ℕ} (t : Fin cfg0.N) (r : Fin b) : b * t.val + r.val < b * 16 := by
  have h : t.val + 1 ≤ 16 := t.isLt
  have h2 := r.isLt
  have h3 := Nat.mul_le_mul_left b h
  rw [Nat.mul_add] at h3
  omega

theorem oa_blk (c : Dev nD) (t : Fin cfg0.N) (r : Fin 1024) (d : Fin 512) :
    iblk m c 0 t (ix2 r d) = m ((c.tc : Thread nD τ).loc main_arg0) (ix2 ⟨1024 * t.val + r.val, row_lt t r⟩ d) := by
  unfold iblk
  blk_simp
  rw [V_main_arg0]
  congr 1
  blk_ext [index_0]

theorem ob_blk (c : Dev nD) (t : Fin cfg0.N) (r : Fin 1024) (d : Fin 512) :
    iblk m c 1 t (ix2 r d) = m ((c.tc : Thread nD τ).loc main_arg1) (ix2 ⟨1024 * t.val + r.val, row_lt t r⟩ d) := by
  unfold iblk
  blk_simp
  rw [V_main_arg1]
  congr 1
  blk_ext [index_1]

theorem rows_blk (c : Dev nD) (t : Fin cfg0.N) (r : Fin 1024) (d : Fin 1024) :
    iblk m c 3 t (ix2 r d) = m ((c.tc : Thread nD τ).loc main_arg3) (ix2 ⟨1024 * t.val + r.val, row_lt t r⟩ d) := by
  unfold iblk
  blk_simp
  rw [V_main_arg3]
  congr 1
  blk_ext [index_3]

theorem gain_blk (c : Dev nD) (t : Fin cfg0.N) (e : Fin 1024) :
    iblk m c 4 t (ix2 0 e) = m ((c.tc : Thread nD τ).loc main_arg4) (ix1 e) := by
  rw [← V_gain m]
  unfold iblk
  blk_simp
  congr 1
  blk_ext [index_4]

theorem w1_blk (c : Dev nD) (t : Fin cfg0.N) (r : Fin 1024) (e : Fin 4096) :
    iblk m c 5 t (ix2 r e) = m ((c.tc : Thread nD τ).loc main_arg5) (ix2 r e) := by
  rw [← V_w1 m]
  unfold iblk
  blk_simp
  congr 1
  blk_ext [index_5]

theorem w2_blk (c : Dev nD) (t : Fin cfg0.N) (r : Fin 4096) (e : Fin 1024) :
    iblk m c 6 t (ix2 r e) = m ((c.tc : Thread nD τ).loc main_arg6) (ix2 r e) := by
  rw [← V_w2 m]
  unfold iblk
  blk_simp
  congr 1
  blk_ext [index_6]

theorem mix_blk (c : Dev nD) (t : Fin cfg0.N) (r : Fin 1024) (e : Fin 1024) :
    iblk m c 2 t (ix2 r e) = m ((c.tc : Thread nD τ).loc main_arg2) (ix2 r e) := by
  rw [← V_mix m]
  unfold iblk
  blk_simp
  congr 1
  blk_ext [index_2]

theorem first_blk (c : Dev nD) (t : Fin cfg0.N) (r : Fin 64) (e : Fin 6144) :
    iblk m c 8 t (ix3 0 r e) = m ((c.tc : Thread nD τ).loc main_arg7) (ix3 0 ⟨64 * t.val + r.val, row_lt t r⟩ e) := by
  unfold iblk
  blk_simp
  rw [V_main_arg7]
  congr 1
  blk_ext [index_8]

theorem second_blk (c : Dev nD) (t : Fin cfg0.N) (r : Fin 192) (e : Fin 1024) :
    iblk m c 9 t (ix3 0 r e) = m ((c.tc : Thread nD τ).loc main_arg8) (ix3 0 ⟨192 * t.val + r.val, row_lt t r⟩ e) := by
  unfold iblk
  blk_simp
  rw [V_main_arg8]
  congr 1
  blk_ext [index_9]

theorem out_blk10 (t : Fin cfg0.N) (r : Fin 1024) (e : Fin 1024) :
    ((win0_10.blk t).view.emb (ix2 r e) : S16384x1024.Idx) = ix2 ⟨1024 * t.val + r.val, row_lt t r⟩ e := by
  blk_ext [index_10]

theorem out_blk11 (t : Fin cfg0.N) (r : Fin 64) (e : Fin 6144) :
    ((win0_11.blk t).view.emb (ix2 r e) : S1024x6144.Idx) = ix2 ⟨64 * t.val + r.val, row_lt t r⟩ e := by
  blk_ext [index_11]

theorem out_blk12 (t : Fin cfg0.N) (r : Fin 192) (e : Fin 1024) :
    ((win0_12.blk t).view.emb (ix2 r e) : S3072x1024.Idx) = ix2 ⟨192 * t.val + r.val, row_lt t r⟩ e := by
  blk_ext [index_12]

/-- The layer's rows as one array. -/
def result (m : (ℓ : Loc nD τ sig) → Buf (Elt Ideal) ℓ) (c : Dev nD) : Buf (Elt Ideal) ((c.tc : Thread nD τ).loc main_v5_0) :=
  fun i : S16384x1024.Idx => Mlp.layer (Mlp.mixed (fun d => m ((c.tc : Thread nD τ).loc main_arg3) (ix2 (i 0) d))
      (fun j => m ((c.tc : Thread nD τ).loc main_arg0) (ix2 (i 0) j)) (fun j => m ((c.tc : Thread nD τ).loc main_arg1) (ix2 (i 0) j))
      (fun j e => m ((c.tc : Thread nD τ).loc main_arg2) (ix2 j e)))
    (fun d => m ((c.tc : Thread nD τ).loc main_arg4) (ix1 d)) (fun d j => m ((c.tc : Thread nD τ).loc main_arg5) (ix2 d j))
    (fun j e => m ((c.tc : Thread nD τ).loc main_arg6) (ix2 j e)) (i 1)

/-- The next layer's first weights. -/
def first (m : (ℓ : Loc nD τ sig) → Buf (Elt Ideal) ℓ) (c : Dev nD) : Buf (Elt Ideal) ((c.tc : Thread nD τ).loc main_v5_1) :=
  fun i : S1024x6144.Idx => m ((c.tc : Thread nD τ).loc main_arg7) (ix3 0 (i 0) (i 1))

/-- The next layer's second weights. -/
def second (m : (ℓ : Loc nD τ sig) → Buf (Elt Ideal) ℓ) (c : Dev nD) : Buf (Elt Ideal) ((c.tc : Thread nD τ).loc main_v5_2) :=
  fun i : S3072x1024.Idx => m ((c.tc : Thread nD τ).loc main_arg8) (ix3 0 (i 0) (i 1))

theorem arr_result (c : Dev nD) : (dats m 0 c).arrAt 10 cfg0.N = result m c := by
  refine (dats m 0 c).arrAt_eq_of_covers 10 _ (by decide +kernel) fun t hf y => ?_
  blk_simp
  rw [after0_10]
  idx_vars y
  rw [out_apply]
  simp only [oa_blk, ob_blk, mix_blk, rows_blk, gain_blk, w1_blk, w2_blk]
  exact (congrArg (result m c) (out_blk10 t y0 y1)).symm

theorem arr_first (c : Dev nD) : (dats m 0 c).arrAt 11 cfg0.N = first m c := by
  refine (dats m 0 c).arrAt_eq_of_covers 11 _ (by decide +kernel) fun t hf y => ?_
  blk_simp
  rw [after0_11]
  idx_vars y
  rw [first_apply]
  simp only [first_blk]
  exact (congrArg (first m c) (out_blk11 t y0 y1)).symm

theorem arr_second (c : Dev nD) : (dats m 0 c).arrAt 12 cfg0.N = second m c := by
  refine (dats m 0 c).arrAt_eq_of_covers 12 _ (by decide +kernel) fun t hf y => ?_
  blk_simp
  rw [after0_12]
  idx_vars y
  rw [second_apply]
  simp only [second_blk]
  exact (congrArg (second m c) (out_blk12 t y0 y1)).symm

/-- The kernel runs and leaves its three results, its arguments unchanged. -/
theorem run (g : Dev nD → PrngReg) : θ_run defs (onTc (τ := τ) (main (F := Ideal))) ⟨m, fun _ => 0, g⟩ fun r => ∀ c : Dev nD,
      r.2.mem ((c.tc : Thread nD τ).loc main_v5_0) = result m c
      ∧ r.2.mem ((c.tc : Thread nD τ).loc main_v5_1) = first m c
      ∧ r.2.mem ((c.tc : Thread nD τ).loc main_v5_2) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨h0, h1, h2, h⟩ := h c
    exact ⟨h0.trans (arr_result m c), h1.trans (arr_first m c), h2.trans (arr_second m c), h⟩) (Value.run_blocks m g)

end Cert.Kernel3Ideal.Hand

namespace Cert.Reference3Ideal.Hand

open Cert.Reference3Ideal Cert.Reference3Ideal.Gen Idealize.ShloMosaic Idealize.SL.Sem

/-- The layer's rows as one array. -/
def result (m : (ℓ : Loc nD τ sig) → Buf (Elt Ideal) ℓ) (c : Dev nD) : Buf (Elt Ideal) ((c.tc : Thread nD τ).loc main_v22) :=
  fun i : S16384x1024.Idx => Mlp.layer (Mlp.mixed (fun d => m ((c.tc : Thread nD τ).loc main_arg3) (ix2 (i 0) d))
      (fun j => m ((c.tc : Thread nD τ).loc main_arg0) (ix2 (i 0) j)) (fun j => m ((c.tc : Thread nD τ).loc main_arg1) (ix2 (i 0) j))
      (fun j e => m ((c.tc : Thread nD τ).loc main_arg2) (ix2 j e)))
    (fun d => m ((c.tc : Thread nD τ).loc main_arg4) (ix1 d)) (fun d j => m ((c.tc : Thread nD τ).loc main_arg5) (ix2 d j))
    (fun j e => m ((c.tc : Thread nD τ).loc main_arg6) (ix2 j e)) (i 1)

/-- The next layer's first weights. -/
def first (m : (ℓ : Loc nD τ sig) → Buf (Elt Ideal) ℓ) (c : Dev nD) : Buf (Elt Ideal) ((c.tc : Thread nD τ).loc main_v25) :=
  fun i : S1024x6144.Idx => m ((c.tc : Thread nD τ).loc main_arg7) (ix3 0 (i 0) (i 1))

/-- The next layer's second weights. -/
def second (m : (ℓ : Loc nD τ sig) → Buf (Elt Ideal) ℓ) (c : Dev nD) : Buf (Elt Ideal) ((c.tc : Thread nD τ).loc main_v28) :=
  fun i : S3072x1024.Idx => m ((c.tc : Thread nD τ).loc main_arg8) (ix3 0 (i 0) (i 1))

set_option maxHeartbeats 1000000 in
/-- The reference runs and leaves its three results, its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v22) = result m c
      ∧ r.2.mem ((c.tc : Thread nD τ).loc main_v25) = first m c
      ∧ r.2.mem ((c.tc : Thread nD τ).loc main_v28) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Value.run (F := Ideal) m g)
  obtain ⟨h0, h1, h2, h⟩ := h c
  refine ⟨h0.trans ?_, h1.trans ?_, h2.trans ?_, h⟩ <;> funext y <;> idx_vars y
  · pointwise [Value.res_main_v22]
    rfl
  · pointwise
    rfl
  · pointwise
    rfl

end Cert.Reference3Ideal.Hand

end
-- ==== Proof.Mlp.Between.lean ====
/- An MLP between two layers: what one block of rows computes, what the array holds after the run, and that the reference
   computes the same. -/
module

public import proofs.«01_k».proof.Proof.Mlp.Spec
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

noncomputable section

namespace Cert.Kernel4Ideal.Hand

open Cert.Kernel4Ideal Cert.Kernel4Ideal.Gen Idealize.ShloMosaic Idealize.ShloMosaic.TcCoe Idealize.SL.Sem

set_option maxHeartbeats 1000000

section Body

variable (x0 : Vec Ideal S1024x1024 .f32) (x1 : Vec Ideal S1x1024 .f32) (x2 : Vec Ideal S1024x4096 .bf16)
  (x3 : Vec Ideal S4096x1024 .bf16) (x4 : Vec Ideal S1x1024 .f32) (x5 : Vec Ideal S1x64x3584 .f32)

/-- The normed rows of a block. -/
theorem hidden_apply (r d : Fin 1024) :
    k0_pay2 x0 x1 (ix2 r d) = Mlp.norm (fun d => x0 (ix2 r d)) (fun d => x1 (ix2 0 d)) d := by
  pointwise [k0_pay2]
  rfl

/-- The load of a block of rows reads all of it. -/
theorem ld_rows : View.ld x0 r0_2 = x0 := by
  funext y
  idx_vars y
  pointwise

/-- The load of a gain reads all of it. -/
theorem ld_gain : View.ld x1 r0_3 = x1 := by
  funext y
  idx_vars y
  obtain rfl := Fin.eq_zero y0
  pointwise

/-- The eight products with the hidden units' blocks, added to the rows, are the layer. -/
theorem sum_apply (r e : Fin 1024) :
    out0_6 x0 x1 x2 x3 x4 x5 (ix2 r e)
      = Mlp.layer (fun d => x0 (ix2 r d)) (fun d => x1 (ix2 0 d)) (fun d j => x2 (ix2 d j)) (fun j e => x3 (ix2 j e)) e := by
  unfold out0_6
  frame_out
  pointwise [k0_pay3, k0_pay4, k0_pay5, k0_pay6, k0_pay7, k0_pay8, k0_pay9, ld_rows, ld_gain, hidden_apply]
  refine Mlp.add_blocks _ (fun j => Mlp.unit (Mlp.norm (fun d => x0 (ix2 r d)) (fun d => x1 (ix2 0 d)))
    (fun d => x2 (ix2 d j)) * x3 (ix2 j e)) _ _ _ _ _ _ _ _ ?_ ?_ ?_ ?_ ?_ ?_ ?_ ?_ <;> intro j <;> rfl

/-- The slab of the next layer's weights, rounded. -/
theorem cast_apply (r : Fin 64) (e : Fin 3584) : out0_7 x0 x1 x2 x3 x4 x5 (ix2 r e) = x5 (ix3 0 r e) := by
  unfold out0_7
  frame_out
  pointwise [k0_pay1]

end Body

variable (m : (ℓ : Loc nD τ sig) → Buf (Elt Ideal) ℓ)

/-- The norm's gain as the kernel finds it. -/
theorem V_gain (c : Dev nD) (e : Fin 1024) : V m c main_v0 (ix2 0 e) = m ((c.tc : Thread nD τ).loc main_arg1) (ix1 e) := by
  unfold V
  simp only [hostOps0]
  after_results_simp
  pointwise

/-- The first weights as the kernel finds them. -/
theorem V_w1 (c : Dev nD) (r : Fin 1024) (e : Fin 4096) : V m c main_v1 (ix2 r e) = m ((c.tc : Thread nD τ).loc main_arg2) (ix2 r e) := by
  unfold V
  simp only [hostOps0]
  after_results_simp
  pointwise

/-- The second weights as the kernel finds them. -/
theorem V_w2 (c : Dev nD) (r : Fin 4096) (e : Fin 1024) : V m c main_v2 (ix2 r e) = m ((c.tc : Thread nD τ).loc main_arg3) (ix2 r e) := by
  unfold V
  simp only [hostOps0]
  after_results_simp
  pointwise

/-- Where the windows' blocks lie: the rows move with the grid, the weights and gains stay. -/
theorem index_rows : ∀ t : Fin cfg0.N, win0_0.index t = ![t.val, 0] := (by decide +kernel : ∀ t : Fin grid0.N, _)
@[inherit_doc index_rows]
theorem index_out : ∀ t : Fin cfg0.N, win0_6.index t = ![t.val, 0] := (by decide +kernel : ∀ t : Fin grid0.N, _)
@[inherit_doc index_rows]
theorem index_gain : ∀ t : Fin cfg0.N, win0_1.index t = ![0, 0] := (by decide +kernel : ∀ t : Fin grid0.N, _)
@[inherit_doc index_rows]
theorem index_w1 : ∀ t : Fin cfg0.N, win0_2.index t = ![0, 0] := (by decide +kernel : ∀ t : Fin grid0.N, _)
@[inherit_doc index_rows]
theorem index_w2 : ∀ t : Fin cfg0.N, win0_3.index t = ![0, 0] := (by decide +kernel : ∀ t : Fin grid0.N, _)
@[inherit_doc index_rows]
theorem index_slab : ∀ t : Fin cfg0.N, win0_5.index t = ![1, t.val, 0] := (by decide +kernel : ∀ t : Fin grid0.N, _)
@[inherit_doc index_rows]
theorem index_cast : ∀ t : Fin cfg0.N, win0_7.index t = ![t.val, 0] := (by decide +kernel : ∀ t : Fin grid0.N, _)

/-- Row `r` of block `t` is a row of the array. -/
theorem row_lt (t : Fin cfg0.N) (r : Fin 1024) : 1024 * t.val + r.val < 16384 := by
  have h : t.val < 16 := t.isLt
  omega

theorem rows_blk (c : Dev nD) (t : Fin cfg0.N) (r d : Fin 1024) :
    iblk m c 0 t (ix2 r d) = m ((c.tc : Thread nD τ).loc main_arg0) (ix2 ⟨1024 * t.val + r.val, row_lt t r⟩ d) := by
  unfold iblk
  blk_simp
  rw [V_main_arg0]
  congr 1
  blk_ext [index_rows]

theorem gain_blk (c : Dev nD) (t : Fin cfg0.N) (d : Fin 1024) :
    iblk m c 1 t (ix2 0 d) = m ((c.tc : Thread nD τ).loc main_arg1) (ix1 d) := by
  rw [← V_gain m]
  unfold iblk
  blk_simp
  congr 1
  blk_ext [index_gain]

theorem w1_blk (c : Dev nD) (t : Fin cfg0.N) (d : Fin 1024) (j : Fin 4096) :
    iblk m c 2 t (ix2 d j) = m ((c.tc : Thread nD τ).loc main_arg2) (ix2 d j) := by
  rw [← V_w1 m]
  unfold iblk
  blk_simp
  congr 1
  blk_ext [index_w1]

theorem w2_blk (c : Dev nD) (t : Fin cfg0.N) (j : Fin 4096) (e : Fin 1024) :
    iblk m c 3 t (ix2 j e) = m ((c.tc : Thread nD τ).loc main_arg3) (ix2 j e) := by
  rw [← V_w2 m]
  unfold iblk
  blk_simp
  congr 1
  blk_ext [index_w2]

/-- Row `r` of slab `t` is a row of the next layer's weights. -/
theorem slab_lt (t : Fin cfg0.N) (r : Fin 64) : 64 * t.val + r.val < 1024 := by
  have h : t.val < 16 := t.isLt
  omega

theorem slab_blk (c : Dev nD) (t : Fin cfg0.N) (r : Fin 64) (e : Fin 3584) :
    iblk m c 5 t (ix3 0 r e) = m ((c.tc : Thread nD τ).loc main_arg4) (ix3 1 ⟨64 * t.val + r.val, slab_lt t r⟩ e) := by
  unfold iblk
  blk_simp
  rw [V_main_arg4]
  congr 1
  blk_ext [index_slab]

theorem out_blk (t : Fin cfg0.N) (r d : Fin 1024) :
    ((win0_6.blk t).view.emb (ix2 r d) : S16384x1024.Idx) = ix2 ⟨1024 * t.val + r.val, row_lt t r⟩ d := by
  blk_ext [index_out]

theorem cast_blk (t : Fin cfg0.N) (r : Fin 64) (e : Fin 3584) :
    ((win0_7.blk t).view.emb (ix2 r e) : S1024x3584.Idx) = ix2 ⟨64 * t.val + r.val, slab_lt t r⟩ e := by
  blk_ext [index_cast]

/-- Entry `(r, e)` of the result: the layer on row `r`. -/
def entry (c : Dev nD) (r : Fin 16384) (e : Fin 1024) : EReal :=
  Mlp.layer (fun d => m ((c.tc : Thread nD τ).loc main_arg0) (ix2 r d))
    (fun d => m ((c.tc : Thread nD τ).loc main_arg1) (ix1 d)) (fun d j => m ((c.tc : Thread nD τ).loc main_arg2) (ix2 d j))
    (fun j e => m ((c.tc : Thread nD τ).loc main_arg3) (ix2 j e)) e

/-- The layer's result as one array. -/
def result (c : Dev nD) : Buf (Elt Ideal) ((c.tc : Thread nD τ).loc main_v4_0) :=
  fun i : S16384x1024.Idx => entry m c (i 0) (i 1)

/-- The next layer's weights. -/
def weights (c : Dev nD) : Buf (Elt Ideal) ((c.tc : Thread nD τ).loc main_v4_1) :=
  fun i : S1024x3584.Idx => m ((c.tc : Thread nD τ).loc main_arg4) (ix3 1 (i 0) (i 1))

/-- The rows that the kernel leaves. -/
theorem arr (c : Dev nD) : (dats m 0 c).arrAt 6 cfg0.N = result m c := by
  refine (dats m 0 c).arrAt_eq_of_covers 6 _ (by decide +kernel) fun t hf y => ?_
  blk_simp
  rw [after0_6]
  idx_vars y
  rw [sum_apply]
  simp only [rows_blk, gain_blk, w1_blk, w2_blk]
  exact (congrArg (result m c) (out_blk t y0 y1)).symm

/-- The weights that the kernel leaves. -/
theorem arr_cast (c : Dev nD) : (dats m 0 c).arrAt 7 cfg0.N = weights m c := by
  refine (dats m 0 c).arrAt_eq_of_covers 7 _ (by decide +kernel) fun t hf y => ?_
  blk_simp
  rw [after0_7]
  idx_vars y
  rw [cast_apply, slab_blk]
  exact (congrArg (weights m c) (cast_blk t y0 y1)).symm

/-- The kernel runs and leaves both, its arguments unchanged. -/
theorem run (g : Dev nD → PrngReg) : θ_run defs (onTc (τ := τ) (main (F := Ideal))) ⟨m, fun _ => 0, g⟩ fun r => ∀ c : Dev nD,
      r.2.mem ((c.tc : Thread nD τ).loc main_v4_0) = result m c
      ∧ r.2.mem ((c.tc : Thread nD τ).loc main_v4_1) = weights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (arr m c), (h c).2.1.trans (arr_cast m c), (h c).2.2⟩)
    (Value.run_blocks m g)

end Cert.Kernel4Ideal.Hand

namespace Cert.Reference4Ideal.Hand

open Cert.Reference4Ideal Cert.Reference4Ideal.Gen Idealize.ShloMosaic Idealize.SL.Sem

/-- The layer's rows as one array. -/
def result (m : (ℓ : Loc nD τ sig) → Buf (Elt Ideal) ℓ) (c : Dev nD) : Buf (Elt Ideal) ((c.tc : Thread nD τ).loc main_v17) :=
  fun i : S16384x1024.Idx => Mlp.layer (fun d => m ((c.tc : Thread nD τ).loc main_arg0) (ix2 (i 0) d))
    (fun d => m ((c.tc : Thread nD τ).loc main_arg1) (ix1 d)) (fun d j => m ((c.tc : Thread nD τ).loc main_arg2) (ix2 d j))
    (fun j e => m ((c.tc : Thread nD τ).loc main_arg3) (ix2 j e)) (i 1)

/-- The next layer's weights. -/
def weights (m : (ℓ : Loc nD τ sig) → Buf (Elt Ideal) ℓ) (c : Dev nD) : Buf (Elt Ideal) ((c.tc : Thread nD τ).loc main_v20) :=
  fun i : S1024x3584.Idx => m ((c.tc : Thread nD τ).loc main_arg4) (ix3 1 (i 0) (i 1))

set_option maxHeartbeats 1000000 in
/-- The reference runs and leaves both, its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v17) = result m c
      ∧ r.2.mem ((c.tc : Thread nD τ).loc main_v20) = weights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run (F := Ideal) m g)
  · funext y
    idx_vars y
    pointwise
    rfl
  · funext y
    idx_vars y
    pointwise
    rfl

end Cert.Reference4Ideal.Hand

end
-- ==== Proof.Consts.Words.lean ====
/- The float constants that the references spell, as real numbers, and what the references make of them. -/
module

public import Idealize.ShloMosaic.PureOps.Ideal

@[expose] public section

noncomputable section

namespace Cert.Consts

open Idealize.ShloMosaic

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_3072 : Ideal.ofBits .f32 0x45400000#32 = ((3072 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- A quotient by the root of 128 and by the logarithm of 2 is a product with the two inverses. -/
theorem div_sqrt_log (x : EReal) : Ideal.div (Ideal.div x (Ideal.sqrt (Ideal.ofBits .f32 0x43000000#32)))
    (Ideal.log (Ideal.ofBits .f32 0x40000000#32)) = x * (((Real.sqrt 128)⁻¹ * (Real.log 2)⁻¹ : ℝ) : EReal) := by
  rw [ofBits_128, ofBits_2, Ideal.sqrt_coe, Ideal.log_coe, if_neg (by norm_num), if_neg (by norm_num),
    Ideal.div_coe (Real.log_pos (by norm_num)).ne', Ideal.div_coe (by positivity), mul_assoc, ← EReal.coe_mul]
  simp only [one_div]

/-- A quotient by the root of 2 is a product with its inverse. -/
theorem div_sqrt_two (x : EReal) : Ideal.div x (Ideal.sqrt (Ideal.ofBits .f32 0x40000000#32))
    = x * (((Real.sqrt 2)⁻¹ : ℝ) : EReal) := by
  rw [ofBits_2, Ideal.sqrt_coe, if_neg (by norm_num), Ideal.div_coe (by positivity)]
  simp only [one_div]

end Cert.Consts

end
-- ==== Proof.Proj.In.lean ====
/- The norm and the projection of the first layer: what one block of rows computes, what the arrays hold after the run, and
   that the reference computes the same. -/
module

public import proofs.«01_k».proof.Proof.Mlp.Spec
public import proofs.«01_k».proof.Proof.Consts.Words
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

noncomputable section

namespace Cert.Proj

open Idealize.ShloMosaic

/-- Column `e` of the projection of a row, normed. -/
def proj (x g : Fin 1024 → EReal) (w : Fin 1024 → Fin 3584 → EReal) (e : Fin 3584) : EReal :=
  ∑ d, Mlp.norm x g d * w d e

/-- Column `e` of the part that the recurrence reads. -/
def left (x g : Fin 1024 → EReal) (w : Fin 1024 → Fin 3584 → EReal) (e : Fin 2048) : EReal :=
  proj x g w ⟨e.val, by omega⟩

/-- Column `e` of the part that the attention reads, the queries at their scale. -/
def right (x g : Fin 1024 → EReal) (w : Fin 1024 → Fin 3584 → EReal) (e : Fin 1536) : EReal :=
  if e.val < 512 then proj x g w ⟨2048 + e.val, by omega⟩ * (((Real.sqrt 128)⁻¹ * (Real.log 2)⁻¹ : ℝ) : EReal)
  else proj x g w ⟨2048 + e.val, by omega⟩

end Cert.Proj

namespace Cert.Kernel5Ideal.Hand

open Cert.Kernel5Ideal Cert.Kernel5Ideal.Gen Idealize.ShloMosaic Idealize.ShloMosaic.TcCoe Idealize.SL.Sem

set_option maxHeartbeats 1000000

section Body

variable (x0 : Vec Ideal S1024x1024 .f32) (x1 : Vec Ideal S1x1024 .f32) (x2 : Vec Ideal S1024x3584 .bf16)
  (x3 : Vec Ideal S1x64x1024 .f32) (x4 : Vec Ideal S1x64x4096 .f32) (x5 : Vec Ideal S1x256x1024 .f32)

/-- The normed rows of a block. -/
theorem hidden_apply (r d : Fin 1024) :
    k0_pay5 x0 x1 (ix2 r d) = Mlp.norm (fun d => x0 (ix2 r d)) (fun d => x1 (ix2 0 d)) d := by
  pointwise [k0_pay5]
  rfl

/-- The load of a block of rows reads all of it. -/
theorem ld_rows : View.ld x0 r0_6 = x0 := by
  funext y
  idx_vars y
  pointwise

/-- The load of a gain reads all of it. -/
theorem ld_gain : View.ld x1 r0_7 = x1 := by
  funext y
  idx_vars y
  obtain rfl := Fin.eq_zero y0
  pointwise

/-- The columns that the recurrence reads, from their four pieces. -/
theorem left_apply (r : Fin 1024) (e : Fin 2048) : out0_6 x0 x1 x2 x3 x4 x5 (ix2 r e)
    = Proj.left (fun d => x0 (ix2 r d)) (fun d => x1 (ix2 0 d)) (fun d e => x2 (ix2 d e)) e := by
  unfold out0_6
  refine View.canon_apply_of_pieces (Val := Elt Ideal)
    (fun y => Proj.left (fun d => x0 (ix2 (y 0) d)) (fun d => x1 (ix2 0 d)) (fun d e => x2 (ix2 d e)) (y 1)
      : Vec Ideal S1024x2048 .f32) _ (fun p hp j => ?_) _
    (cover0_6 _ _ _ _ _)
  simp only [List.mem_cons, List.mem_nil_iff, or_false] at hp
  rcases hp with rfl | rfl | rfl | rfl
  all_goals
    idx_vars j
    pointwise [k0_pay6, k0_pay7, k0_pay8, k0_pay9, k0_pay12, ld_rows, ld_gain, hidden_apply, Proj.left, Proj.proj]
  · have e0 : r0_15.emb (ix2 j0 j1) 0 = j0 := Fin.ext (by show 0 + 1 * j0.val = j0.val; omega)
    have e1 : (r0_15.emb (ix2 j0 j1) 1).val = 1536 + j1.val := by show 1536 + 1 * j1.val = 1536 + j1.val; omega
    simp only [e0, e1]
  · have e0 : r0_13.emb (ix2 j0 j1) 0 = j0 := Fin.ext (by show 0 + 1 * j0.val = j0.val; omega)
    have e1 : (r0_13.emb (ix2 j0 j1) 1).val = 1024 + j1.val := by show 1024 + 1 * j1.val = 1024 + j1.val; omega
    simp only [e0, e1]
  · have e0 : r0_11.emb (ix2 j0 j1) 0 = j0 := Fin.ext (by show 0 + 1 * j0.val = j0.val; omega)
    have e1 : (r0_11.emb (ix2 j0 j1) 1).val = 512 + j1.val := by show 512 + 1 * j1.val = 512 + j1.val; omega
    simp only [e0, e1]
  · have e0 : r0_9.emb (ix2 j0 j1) 0 = j0 := Fin.ext (by show 0 + 1 * j0.val = j0.val; omega)
    have e1 : (r0_9.emb (ix2 j0 j1) 1).val = 0 + j1.val := by show 0 + 1 * j1.val = 0 + j1.val; omega
    simp only [e0, e1, Nat.zero_add]

/-- The factor of the queries is the inverse of `√128` times that of `log 2`. -/
theorem sb_scale : Named.named (F := Ideal) κ "sb_scale" (φ := .f32) 0x3E0293EE#32
    = (((Real.sqrt 128)⁻¹ * (Real.log 2)⁻¹ : ℝ) : EReal) :=
  IdealRules.named_const.ideal_named_scalar _ _ _ _ rfl

/-- The columns that the attention reads, from their three pieces. -/
theorem right_apply (r : Fin 1024) (e : Fin 1536) : out0_7 x0 x1 x2 x3 x4 x5 (ix2 r e)
    = Proj.right (fun d => x0 (ix2 r d)) (fun d => x1 (ix2 0 d)) (fun d e => x2 (ix2 d e)) e := by
  unfold out0_7
  refine View.canon_apply_of_pieces (Val := Elt Ideal)
    (fun y => Proj.right (fun d => x0 (ix2 (y 0) d)) (fun d => x1 (ix2 0 d)) (fun d e => x2 (ix2 d e)) (y 1)
      : Vec Ideal S1024x1536 .bf16) _ (fun p hp j => ?_) _
    (cover0_7 _ _ _ _)
  simp only [List.mem_cons, List.mem_nil_iff, or_false] at hp
  rcases hp with rfl | rfl | rfl
  all_goals
    idx_vars j
    pointwise [k0_pay1, k0_pay10, k0_pay11, k0_pay12, ld_rows, ld_gain, hidden_apply, Proj.right, Proj.proj]
  · have e0 : r0_21.emb (ix2 j0 j1) 0 = j0 := Fin.ext (by show 0 + 1 * j0.val = j0.val; omega)
    have e1 : (r0_21.emb (ix2 j0 j1) 1).val = 1024 + j1.val := by show 1024 + 1 * j1.val = 1024 + j1.val; omega
    simp only [e0, e1]
    rw [if_neg (by omega)]
    simp only [show 2048 + (1024 + j1.val) = 3072 + j1.val by omega]
  · have e0 : r0_19.emb (ix2 j0 j1) 0 = j0 := Fin.ext (by show 0 + 1 * j0.val = j0.val; omega)
    have e1 : (r0_19.emb (ix2 j0 j1) 1).val = 512 + j1.val := by show 512 + 1 * j1.val = 512 + j1.val; omega
    simp only [e0, e1]
    rw [if_neg (by omega)]
    simp only [show 2048 + (512 + j1.val) = 2560 + j1.val by omega]
  · have e0 : r0_17.emb (ix2 j0 j1) 0 = j0 := Fin.ext (by show 0 + 1 * j0.val = j0.val; omega)
    have e1 : (r0_17.emb (ix2 j0 j1) 1).val = 0 + j1.val := by show 0 + 1 * j1.val = 0 + j1.val; omega
    simp only [e0, e1, Nat.zero_add]
    rw [if_pos j1.isLt, sb_scale]

/-- The slab of the output projection's weights, rounded. -/
theorem mix_apply (r : Fin 64) (e : Fin 1024) : out0_8 x0 x1 x2 x3 x4 x5 (ix2 r e) = x3 (ix3 0 r e) := by
  unfold out0_8
  frame_out
  pointwise [k0_pay2]

/-- The slab of the MLP's first weights, rounded. -/
theorem first_apply (r : Fin 64) (e : Fin 4096) : out0_9 x0 x1 x2 x3 x4 x5 (ix2 r e) = x4 (ix3 0 r e) := by
  unfold out0_9
  frame_out
  pointwise [k0_pay3]

/-- The slab of the MLP's second weights, rounded. -/
theorem second_apply (r : Fin 256) (e : Fin 1024) : out0_10 x0 x1 x2 x3 x4 x5 (ix2 r e) = x5 (ix3 0 r e) := by
  unfold out0_10
  frame_out
  pointwise [k0_pay4]

end Body

variable (m : (ℓ : Loc nD τ sig) → Buf (Elt Ideal) ℓ)

/-- The norm's gain as the kernel finds it. -/
theorem V_gain (c : Dev nD) (e : Fin 1024) : V m c main_v0 (ix2 0 e) = m ((c.tc : Thread nD τ).loc main_arg1) (ix1 e) := by
  unfold V
  simp only [hostOps0]
  after_results_simp
  pointwise

/-- The projection's weights as the kernel finds them. -/
theorem V_w (c : Dev nD) (r : Fin 1024) (e : Fin 3584) : V m c main_v1 (ix2 r e) = m ((c.tc : Thread nD τ).loc main_arg2) (ix2 r e) := by
  unfold V
  simp only [hostOps0]
  after_results_simp
  pointwise

/-- Where the windows' blocks lie: the rows and the slabs move with the grid, the projection's weights and gain stay. -/
theorem index_rows : ∀ t : Fin cfg0.N, win0_0.index t = ![t.val, 0] := (by decide +kernel : ∀ t : Fin grid0.N, _)
@[inherit_doc index_rows]
theorem index_gain : ∀ t : Fin cfg0.N, win0_1.index t = ![0, 0] := (by decide +kernel : ∀ t : Fin grid0.N, _)
@[inherit_doc index_rows]
theorem index_w : ∀ t : Fin cfg0.N, win0_2.index t = ![0, 0] := (by decide +kernel : ∀ t : Fin grid0.N, _)
@[inherit_doc index_rows]
theorem index_3 : ∀ t : Fin cfg0.N, win0_3.index t = ![0, t.val, 0] := (by decide +kernel : ∀ t : Fin grid0.N, _)
@[inherit_doc index_rows]
theorem index_4 : ∀ t : Fin cfg0.N, win0_4.index t = ![0, t.val, 0] := (by decide +kernel : ∀ t : Fin grid0.N, _)
@[inherit_doc index_rows]
theorem index_5 : ∀ t : Fin cfg0.N, win0_5.index t = ![0, t.val, 0] := (by decide +kernel : ∀ t : Fin grid0.N, _)
@[inherit_doc index_rows]
theorem index_6 : ∀ t : Fin cfg0.N, win0_6.index t = ![t.val, 0] := (by decide +kernel : ∀ t : Fin grid0.N, _)
@[inherit_doc index_rows]
theorem index_7 : ∀ t : Fin cfg0.N, win0_7.index t = ![t.val, 0] := (by decide +kernel : ∀ t : Fin grid0.N, _)
@[inherit_doc index_rows]
theorem index_8 : ∀ t : Fin cfg0.N, win0_8.index t = ![t.val, 0] := (by decide +kernel : ∀ t : Fin grid0.N, _)
@[inherit_doc index_rows]
theorem index_9 : ∀ t : Fin cfg0.N, win0_9.index t = ![t.val, 0] := (by decide +kernel : ∀ t : Fin grid0.N, _)
@[inherit_doc index_rows]
theorem index_10 : ∀ t : Fin cfg0.N, win0_10.index t = ![t.val, 0] := (by decide +kernel : ∀ t : Fin grid0.N, _)

/-- Row `r` of block `t` is a row of the array. -/
theorem row_lt {b : ℕ} (t : Fin cfg0.N) (r : Fin b) : b * t.val + r.val < b * 16 := by
  have h : t.val + 1 ≤ 16 := t.isLt
  have h2 := r.isLt
  have h3 := Nat.mul_le_mul_left b h
  rw [Nat.mul_add] at h3
  omega

theorem rows_blk (c : Dev nD) (t : Fin cfg0.N) (r d : Fin 1024) :
    iblk m c 0 t (ix2 r d) = m ((c.tc : Thread nD τ).loc main_arg0) (ix2 ⟨1024 * t.val + r.val, row_lt t r⟩ d) := by
  unfold iblk
  blk_simp
  rw [V_main_arg0]
  congr 1
  blk_ext [index_rows]

theorem gain_blk (c : Dev nD) (t : Fin cfg0.N) (d : Fin 1024) :
    iblk m c 1 t (ix2 0 d) = m ((c.tc : Thread nD τ).loc main_arg1) (ix1 d) := by
  rw [← V_gain m]
  unfold iblk
  blk_simp
  congr 1
  blk_ext [index_gain]

theorem w_blk (c : Dev nD) (t : Fin cfg0.N) (d : Fin 1024) (j : Fin 3584) :
    iblk m c 2 t (ix2 d j) = m ((c.tc : Thread nD τ).loc main_arg2) (ix2 d j) := by
  rw [← V_w m]
  unfold iblk
  blk_simp
  congr 1
  blk_ext [index_w]

theorem mix_blk (c : Dev nD) (t : Fin cfg0.N) (r : Fin 64) (e : Fin 1024) :
    iblk m c 3 t (ix3 0 r e) = m ((c.tc : Thread nD τ).loc main_arg3) (ix3 0 ⟨64 * t.val + r.val, row_lt t r⟩ e) := by
  unfold iblk
  blk_simp
  rw [V_main_arg3]
  congr 1
  blk_ext [index_3]

theorem first_blk (c : Dev nD) (t : Fin cfg0.N) (r : Fin 64) (e : Fin 4096) :
    iblk m c 4 t (ix3 0 r e) = m ((c.tc : Thread nD τ).loc main_arg4) (ix3 0 ⟨64 * t.val + r.val, row_lt t r⟩ e) := by
  unfold iblk
  blk_simp
  rw [V_main_arg4]
  congr 1
  blk_ext [index_4]

theorem second_blk (c : Dev nD) (t : Fin cfg0.N) (r : Fin 256) (e : Fin 1024) :
    iblk m c 5 t (ix3 0 r e) = m ((c.tc : Thread nD τ).loc main_arg5) (ix3 0 ⟨256 * t.val + r.val, row_lt t r⟩ e) := by
  unfold iblk
  blk_simp
  rw [V_main_arg5]
  congr 1
  blk_ext [index_5]

theorem out_blk6 (t : Fin cfg0.N) (r : Fin 1024) (e : Fin 2048) :
    ((win0_6.blk t).view.emb (ix2 r e) : S16384x2048.Idx) = ix2 ⟨1024 * t.val + r.val, row_lt t r⟩ e := by
  blk_ext [index_6]

theorem out_blk7 (t : Fin cfg0.N) (r : Fin 1024) (e : Fin 1536) :
    ((win0_7.blk t).view.emb (ix2 r e) : S16384x1536.Idx) = ix2 ⟨1024 * t.val + r.val, row_lt t r⟩ e := by
  blk_ext [index_7]

theorem out_blk8 (t : Fin cfg0.N) (r : Fin 64) (e : Fin 1024) :
    ((win0_8.blk t).view.emb (ix2 r e) : S1024x1024.Idx) = ix2 ⟨64 * t.val + r.val, row_lt t r⟩ e := by
  blk_ext [index_8]

theorem out_blk9 (t : Fin cfg0.N) (r : Fin 64) (e : Fin 4096) :
    ((win0_9.blk t).view.emb (ix2 r e) : S1024x4096.Idx) = ix2 ⟨64 * t.val + r.val, row_lt t r⟩ e := by
  blk_ext [index_9]

theorem out_blk10 (t : Fin cfg0.N) (r : Fin 256) (e : Fin 1024) :
    ((win0_10.blk t).view.emb (ix2 r e) : S4096x1024.Idx) = ix2 ⟨256 * t.val + r.val, row_lt t r⟩ e := by
  blk_ext [index_10]

/-- The recurrence's part of the projection. -/
def left (m : (ℓ : Loc nD τ sig) → Buf (Elt Ideal) ℓ) (c : Dev nD) : Buf (Elt Ideal) ((c.tc : Thread nD τ).loc main_v2_0) :=
  fun i : S16384x2048.Idx => Proj.left (fun d => m ((c.tc : Thread nD τ).loc main_arg0) (ix2 (i 0) d))
    (fun d => m ((c.tc : Thread nD τ).loc main_arg1) (ix1 d)) (fun d j => m ((c.tc : Thread nD τ).loc main_arg2) (ix2 d j)) (i 1)

/-- The attention's part of the projection. -/
def right (m : (ℓ : Loc nD τ sig) → Buf (Elt Ideal) ℓ) (c : Dev nD) : Buf (Elt Ideal) ((c.tc : Thread nD τ).loc main_v2_1) :=
  fun i : S16384x1536.Idx => Proj.right (fun d => m ((c.tc : Thread nD τ).loc main_arg0) (ix2 (i 0) d))
    (fun d => m ((c.tc : Thread nD τ).loc main_arg1) (ix1 d)) (fun d j => m ((c.tc : Thread nD τ).loc main_arg2) (ix2 d j)) (i 1)

/-- The output projection's weights. -/
def mix (m : (ℓ : Loc nD τ sig) → Buf (Elt Ideal) ℓ) (c : Dev nD) : Buf (Elt Ideal) ((c.tc : Thread nD τ).loc main_v2_2) :=
  fun i : S1024x1024.Idx => m ((c.tc : Thread nD τ).loc main_arg3) (ix3 0 (i 0) (i 1))

/-- The MLP's first weights. -/
def first (m : (ℓ : Loc nD τ sig) → Buf (Elt Ideal) ℓ) (c : Dev nD) : Buf (Elt Ideal) ((c.tc : Thread nD τ).loc main_v2_3) :=
  fun i : S1024x4096.Idx => m ((c.tc : Thread nD τ).loc main_arg4) (ix3 0 (i 0) (i 1))

/-- The MLP's second weights. -/
def second (m : (ℓ : Loc nD τ sig) → Buf (Elt Ideal) ℓ) (c : Dev nD) : Buf (Elt Ideal) ((c.tc : Thread nD τ).loc main_v2_4) :=
  fun i : S4096x1024.Idx => m ((c.tc : Thread nD τ).loc main_arg5) (ix3 0 (i 0) (i 1))

theorem arr_left (c : Dev nD) : (dats m 0 c).arrAt 6 cfg0.N = left m c := by
  refine (dats m 0 c).arrAt_eq_of_covers 6 _ (by decide +kernel) fun t hf y => ?_
  blk_simp
  rw [after0_6]
  idx_vars y
  rw [left_apply]
  simp only [rows_blk, gain_blk, w_blk]
  exact (congrArg (left m c) (out_blk6 t y0 y1)).symm

theorem arr_right (c : Dev nD) : (dats m 0 c).arrAt 7 cfg0.N = right m c := by
  refine (dats m 0 c).arrAt_eq_of_covers 7 _ (by decide +kernel) fun t hf y => ?_
  blk_simp
  rw [after0_7]
  idx_vars y
  rw [right_apply]
  simp only [rows_blk, gain_blk, w_blk]
  exact (congrArg (right m c) (out_blk7 t y0 y1)).symm

theorem arr_mix (c : Dev nD) : (dats m 0 c).arrAt 8 cfg0.N = mix m c := by
  refine (dats m 0 c).arrAt_eq_of_covers 8 _ (by decide +kernel) fun t hf y => ?_
  blk_simp
  rw [after0_8]
  idx_vars y
  rw [mix_apply]
  simp only [rows_blk, gain_blk, w_blk, mix_blk]
  exact (congrArg (mix m c) (out_blk8 t y0 y1)).symm

theorem arr_first (c : Dev nD) : (dats m 0 c).arrAt 9 cfg0.N = first m c := by
  refine (dats m 0 c).arrAt_eq_of_covers 9 _ (by decide +kernel) fun t hf y => ?_
  blk_simp
  rw [after0_9]
  idx_vars y
  rw [first_apply]
  simp only [rows_blk, gain_blk, w_blk, first_blk]
  exact (congrArg (first m c) (out_blk9 t y0 y1)).symm

theorem arr_second (c : Dev nD) : (dats m 0 c).arrAt 10 cfg0.N = second m c := by
  refine (dats m 0 c).arrAt_eq_of_covers 10 _ (by decide +kernel) fun t hf y => ?_
  blk_simp
  rw [after0_10]
  idx_vars y
  rw [second_apply]
  simp only [rows_blk, gain_blk, w_blk, second_blk]
  exact (congrArg (second m c) (out_blk10 t y0 y1)).symm

/-- The kernel runs and leaves its five results, its arguments unchanged. -/
theorem run (g : Dev nD → PrngReg) : θ_run defs (onTc (τ := τ) (main (F := Ideal))) ⟨m, fun _ => 0, g⟩ fun r => ∀ c : Dev nD,
      r.2.mem ((c.tc : Thread nD τ).loc main_v2_0) = left m c
      ∧ r.2.mem ((c.tc : Thread nD τ).loc main_v2_1) = right m c
      ∧ r.2.mem ((c.tc : Thread nD τ).loc main_v2_2) = mix m c
      ∧ r.2.mem ((c.tc : Thread nD τ).loc main_v2_3) = first m c
      ∧ r.2.mem ((c.tc : Thread nD τ).loc main_v2_4) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, h2, h3, h4, h⟩ := h c
    exact ⟨h0.trans (arr_left m c), h1.trans (arr_right m c), h2.trans (arr_mix m c), h3.trans (arr_first m c),
      h4.trans (arr_second m c), h⟩) (Value.run_blocks m g)

end Cert.Kernel5Ideal.Hand

namespace Cert.Reference5Ideal.Hand

open Cert.Reference5Ideal Cert.Reference5Ideal.Gen Idealize.ShloMosaic Idealize.SL.Sem

/-- The recurrence's part of the projection. -/
def left (m : (ℓ : Loc nD τ sig) → Buf (Elt Ideal) ℓ) (c : Dev nD) : Buf (Elt Ideal) ((c.tc : Thread nD τ).loc main_v25) :=
  fun i : S16384x2048.Idx => Proj.left (fun d => m ((c.tc : Thread nD τ).loc main_arg0) (ix2 (i 0) d))
    (fun d => m ((c.tc : Thread nD τ).loc main_arg1) (ix1 d)) (fun d j => m ((c.tc : Thread nD τ).loc main_arg2) (ix2 d j)) (i 1)

/-- The attention's part of the projection. -/
def right (m : (ℓ : Loc nD τ sig) → Buf (Elt Ideal) ℓ) (c : Dev nD) : Buf (Elt Ideal) ((c.tc : Thread nD τ).loc main_v26) :=
  fun i : S16384x1536.Idx => Proj.right (fun d => m ((c.tc : Thread nD τ).loc main_arg0) (ix2 (i 0) d))
    (fun d => m ((c.tc : Thread nD τ).loc main_arg1) (ix1 d)) (fun d j => m ((c.tc : Thread nD τ).loc main_arg2) (ix2 d j)) (i 1)

/-- The output projection's weights. -/
def mix (m : (ℓ : Loc nD τ sig) → Buf (Elt Ideal) ℓ) (c : Dev nD) : Buf (Elt Ideal) ((c.tc : Thread nD τ).loc main_v29) :=
  fun i : S1024x1024.Idx => m ((c.tc : Thread nD τ).loc main_arg3) (ix3 0 (i 0) (i 1))

/-- The MLP's first weights. -/
def first (m : (ℓ : Loc nD τ sig) → Buf (Elt Ideal) ℓ) (c : Dev nD) : Buf (Elt Ideal) ((c.tc : Thread nD τ).loc main_v32) :=
  fun i : S1024x4096.Idx => m ((c.tc : Thread nD τ).loc main_arg4) (ix3 0 (i 0) (i 1))

/-- The MLP's second weights. -/
def second (m : (ℓ : Loc nD τ sig) → Buf (Elt Ideal) ℓ) (c : Dev nD) : Buf (Elt Ideal) ((c.tc : Thread nD τ).loc main_v35) :=
  fun i : S4096x1024.Idx => m ((c.tc : Thread nD τ).loc main_arg5) (ix3 0 (i 0) (i 1))

set_option maxHeartbeats 1000000 in
/-- The reference runs and leaves its five results, its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v25) = left m c
      ∧ r.2.mem ((c.tc : Thread nD τ).loc main_v26) = right m c
      ∧ r.2.mem ((c.tc : Thread nD τ).loc main_v29) = mix m c
      ∧ r.2.mem ((c.tc : Thread nD τ).loc main_v32) = first m c
      ∧ r.2.mem ((c.tc : Thread nD τ).loc main_v35) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run (F := Ideal) m g)
  obtain ⟨h0, h1, h2, h3, h4, h⟩ := h c
  refine ⟨h0.trans ?_, h1.trans ?_, h2.trans ?_, h3.trans ?_, h4.trans ?_, h⟩ <;> funext y <;> idx_vars y <;> pointwise
  · rfl
  · by_cases h : y1.val < 512
    · exact (dif_pos h).trans ((Consts.div_sqrt_log _).trans (if_pos h).symm)
    · refine (dif_neg h).trans (.trans ?_ (if_neg h).symm)
      have e : 2560 + (y1.val - 512) = 2048 + y1.val := by omega
      simp only [e]
      rfl
  all_goals rfl

end Cert.Reference5Ideal.Hand

end
-- ==== Proof.Gmlp.Spec.lean ====
/- What the chunked gMLP computes of one row, and what its kernel makes of the same row. -/
module

public import proofs.«01_k».proof.Proof.Mlp.Spec
public import proofs.«01_k».proof.Proof.Consts.Words
public import Idealize.ShloMosaic.Lib.WordCmp
public import Idealize.ShloMosaic.Lib.Pointwise

@[expose] public section

noncomputable section

namespace Cert.Gmlp

open Idealize.ShloMosaic

/-- The exact gelu. -/
def gelu (y : EReal) : EReal :=
  Ideal.ofBits FTy.f32 1056964608#32 * y * (1 + Ideal.erf (y * (((Real.sqrt 2)⁻¹ : ℝ) : EReal)))

/-- One of a row's activations. -/
def act {n : ℕ} (h : Fin 1024 → EReal) (w : Fin 1024 → Fin n → EReal) (j : Fin n) : EReal := gelu (∑ d, h d * w d j)

/-- The mean of a row. -/
def mean (v : Fin 3072 → EReal) : EReal := Ideal.div (∑ i, v i) (Ideal.ofBits FTy.f32 1161822208#32)

/-- The layer norm of a row. -/
def layerNorm (v g b : Fin 3072 → EReal) (j : Fin 3072) : EReal :=
  (v j - mean v) * Ideal.rsqrt (Ideal.div (∑ i, (v i - mean v) * (v i - mean v)) (Ideal.ofBits FTy.f32 1161822208#32)
    + Ideal.ofBits FTy.f32 897988541#32) * g j + b j

/-- The columns that are normed and mixed over the positions. -/
def gate (h : Fin 1024 → EReal) (w : Fin 1024 → Fin 6144 → EReal) (j : Fin 3072) : EReal := act h w ⟨3072 + j.val, by omega⟩

/-- A column at position `t` of a chunk, mixed over the positions up to `t`. -/
def mixed (v : Fin 128 → EReal) (ws : Fin 128 → EReal) (b : EReal) (t : Fin 128) : EReal :=
  (∑ s, if s.val ≤ t.val then v s * ws s else 0) + b

/-- One column of a row after the gating, from the normed columns `vn` of the row's chunk. -/
def gated (x g : Fin 1024 → EReal) (w : Fin 1024 → Fin 6144 → EReal) (vn : Fin 128 → Fin 3072 → EReal)
    (ws : Fin 8 → Fin 128 → Fin 128 → EReal) (bs : Fin 8 → Fin 128 → EReal) (t : Fin 128) (j : Fin 3072) : EReal :=
  act (Mlp.norm x g) w ⟨j.val, by omega⟩
    * mixed (fun s => vn s j) (ws ⟨j.val / 384, by omega⟩ t) (bs ⟨j.val / 384, by omega⟩ t) t

/-- One row of the layer: the row `x` is at position `t` of the chunk of rows `xs`. -/
def gmlp (x : Fin 1024 → EReal) (xs : Fin 128 → Fin 1024 → EReal) (g : Fin 1024 → EReal) (w : Fin 1024 → Fin 6144 → EReal)
    (lng lnb : Fin 3072 → EReal) (ws : Fin 8 → Fin 128 → Fin 128 → EReal) (bs : Fin 8 → Fin 128 → EReal)
    (wo : Fin 3072 → Fin 1024 → EReal) (t : Fin 128) (e : Fin 1024) : EReal :=
  x e + ∑ j, gated x g w (fun s => layerNorm (gate (Mlp.norm (xs s) g) w) lng lnb) ws bs t j * wo j e

/-- The causal mask, as the programs compare the positions. -/
theorem select_le {s t : ℕ} (hs : s < 128) (ht : t < 128) (x : EReal) :
    Scalar.select (IntOp.cmpi CmpIPredicate.sge (BitVec.ofNat 32 t) (BitVec.ofNat 32 s)) x 0 = if s ≤ t then x else 0 := by
  rw [WordCmp.cmpi_sge_ofNat (by omega) (by omega)]
  by_cases h : s ≤ t <;> simp [Scalar.select, h]

end Cert.Gmlp

end
-- ==== Proof.Gmlp.Reference.lean ====
/- The chunked gMLP's reference computes the layer row by row. -/
module

public import proofs.«01_k».proof.Proof.Gmlp.Spec
public import proofs.«01_k».proof.Proof.Gen.Reference6Ideal.Run
public import Idealize.ShloMosaic.Lib.Pipeline.ValueKit
public import Idealize.ShloMosaic.Lib.Pointwise

@[expose] public section

noncomputable section

namespace Cert.Reference6Ideal.Hand

open Cert.Reference6Ideal Cert.Reference6Ideal.Gen Idealize.ShloMosaic Idealize.SL.Sem

/-- The layer's rows as one array. -/
def result (m : (ℓ : Loc nD τ sig) → Buf (Elt Ideal) ℓ) (c : Dev nD) : Buf (Elt Ideal) ((c.tc : Thread nD τ).loc main_v63) :=
  fun i : S16384x1024.Idx => Gmlp.gmlp (fun d => m ((c.tc : Thread nD τ).loc main_arg0) (ix2 (i 0) d))
    (fun s d => m ((c.tc : Thread nD τ).loc main_arg0) (ix2 ⟨(i 0).val / 128 * 128 + s.val, by have h := (i 0).isLt; simp at h; omega⟩ d))
    (fun d => m ((c.tc : Thread nD τ).loc main_arg1) (ix1 d)) (fun d j => m ((c.tc : Thread nD τ).loc main_arg2) (ix2 d j))
    (fun j => m ((c.tc : Thread nD τ).loc main_arg3) (ix1 j)) (fun j => m ((c.tc : Thread nD τ).loc main_arg4) (ix1 j))
    (fun g t s => m ((c.tc : Thread nD τ).loc main_arg5) (ix3 g t s)) (fun g t => m ((c.tc : Thread nD τ).loc main_arg6) (ix2 g t))
    (fun j e => m ((c.tc : Thread nD τ).loc main_arg7) (ix2 j e)) ⟨(i 0).val % 128, Nat.mod_lt _ (by norm_num)⟩ (i 1)

/-- The next MLP's first weights. -/
def first (m : (ℓ : Loc nD τ sig) → Buf (Elt Ideal) ℓ) (c : Dev nD) : Buf (Elt Ideal) ((c.tc : Thread nD τ).loc main_v66) :=
  fun i : S1024x4096.Idx => m ((c.tc : Thread nD τ).loc main_arg8) (ix3 1 (i 0) (i 1))

/-- The next MLP's second weights. -/
def second (m : (ℓ : Loc nD τ sig) → Buf (Elt Ideal) ℓ) (c : Dev nD) : Buf (Elt Ideal) ((c.tc : Thread nD τ).loc main_v69) :=
  fun i : S4096x1024.Idx => m ((c.tc : Thread nD τ).loc main_arg9) (ix3 1 (i 0) (i 1))

/-- A quotient by the root of 2, as the reference spells the root. -/
theorem div_root (x : EReal) : Ideal.div x (id (Host.sqrt (constant (F := Ideal) S_ .f32 0x40000000#32)) ix0)
    = x * (((Real.sqrt 2)⁻¹ : ℝ) : EReal) := Consts.div_sqrt_two x

set_option maxHeartbeats 1000000 in
theorem out_apply (m : (ℓ : Loc nD τ sig) → Buf (Elt Ideal) ℓ) (c : Dev nD) : Value.res_main_v63 m c = result m c := by
  funext y
  idx_vars y
  pointwise [Value.res_main_v63]
  simp only [div_root]
  refine congrArg₂ (· + ·) rfl (Finset.sum_congr rfl fun j _ => congrArg₂ (· * ·) (congrArg₂ (· * ·) rfl
    (congrArg₂ (· + ·) (Finset.sum_congr rfl fun s _ => ?_) rfl)) rfl)
  refine (congrArg₂ (fun t z => Scalar.select (IntOp.cmpi CmpIPredicate.sge t _) _ z) (BitVec.add_zero _) rfl).trans ?_
  refine (Gmlp.select_le s.isLt (Nat.mod_lt _ (by norm_num)) _).trans ?_
  refine if_congr Iff.rfl (congrArg₂ (· * ·) ?_ rfl) rfl
  simp only [Gmlp.layerNorm, Gmlp.mean, Gmlp.gate, Gmlp.act, Gmlp.gelu, Mlp.norm, Mlp.inv]
  rfl

set_option maxHeartbeats 1000000 in
/-- The reference runs and leaves its three results, its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v63) = result m c
      ∧ r.2.mem ((c.tc : Thread nD τ).loc main_v66) = first m c
      ∧ r.2.mem ((c.tc : Thread nD τ).loc main_v69) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (Value.run (F := Ideal) m g)
  obtain ⟨h0, h1, h2, h⟩ := h c
  refine ⟨h0.trans (out_apply m c), h1.trans ?_, h2.trans ?_, h⟩ <;> funext y <;> idx_vars y <;> pointwise <;> rfl

end Cert.Reference6Ideal.Hand

end
-- ==== Proof.Gmlp.Norm.lean ====
/- Arithmetic of the chunked gMLP over the real numbers: the activations of finite rows are real, and the layer norm from
   a row's sum and its sum of squares is the layer norm. -/
module

public import proofs.«01_k».proof.Proof.Gmlp.Spec

@[expose] public section

noncomputable section

namespace Cert.Gmlp

open Idealize.ShloMosaic

theorem coe_sum {n : ℕ} (f : Fin n → ℝ) : ∑ i, ((f i : ℝ) : EReal) = ((∑ i, f i : ℝ) : EReal) :=
  (map_sum (⟨⟨Real.toEReal, EReal.coe_zero⟩, EReal.coe_add⟩ : ℝ →+ EReal) f Finset.univ).symm

/-- The norm's epsilon is a positive real number. -/
theorem eps_pos : ∃ e : ℝ, 0 < e ∧ Ideal.ofBits .f32 0x358637BD#32 = ((e : ℝ) : EReal) := by
  refine ⟨8796093 * (2 ^ 43)⁻¹, by positivity, ?_⟩
  simp [Ideal.ofBits, Ideal.ieee, -EReal.coe_mul]

/-- The inverse root of a nonnegative real and the epsilon. -/
theorem rsqrt_real (a : ℝ) (h : 0 ≤ a) : ∃ b : ℝ, Ideal.rsqrt ((a : EReal) + Ideal.ofBits .f32 897988541#32) = (b : EReal) := by
  obtain ⟨e, he, hE⟩ := eps_pos
  refine ⟨(Real.sqrt (a + e))⁻¹, ?_⟩
  rw [show Ideal.ofBits .f32 897988541#32 = ((e : ℝ) : EReal) from hE, ← EReal.coe_add, Ideal.rsqrt_coe, if_neg (by linarith),
    if_neg (by linarith)]

/-- The gelu of a real number is real. -/
theorem gelu_real (y : ℝ) : ∃ b : ℝ, gelu (y : EReal) = (b : EReal) := by
  unfold gelu
  rw [show Ideal.ofBits FTy.f32 1056964608#32 = ((1 / 2 : ℝ) : EReal) from Consts.ofBits_half, ← EReal.coe_mul, ← EReal.coe_mul,
    Ideal.erf_coe]
  exact ⟨_, by rw [← EReal.coe_one, ← EReal.coe_add, ← EReal.coe_mul]⟩

/-- A square is not negative. -/
theorem sq_nonneg (x : EReal) : 0 ≤ x * x := by
  induction x with
  | bot => simp
  | top => simp
  | coe a => exact_mod_cast mul_self_nonneg a

/-- A row with an infinite entry has an infinite root mean square, so what it is divided by makes it 0. -/
theorem inv_zero (x : Fin 1024 → EReal) (i : Fin 1024) (hi : ∀ a : ℝ, x i ≠ a) : Mlp.inv x = 0 := by
  have hs : x i * x i = ⊤ := by
    revert hi
    induction x i with
    | bot => simp
    | top => simp
    | coe a => exact fun h => absurd rfl (h a)
  have hsum : ∑ j, x j * x j = ⊤ :=
    top_le_iff.mp (hs ▸ Finset.single_le_sum (f := fun j => x j * x j) (fun j _ => sq_nonneg (x j)) (Finset.mem_univ i))
  obtain ⟨e, he, hE⟩ := eps_pos
  unfold Mlp.inv
  rw [hsum, show Ideal.ofBits FTy.f32 1149239296#32 = ((1024 : ℝ) : EReal) from Consts.ofBits_1024, Ideal.div_coe (by norm_num),
    EReal.top_mul_coe_of_pos (by norm_num), show Ideal.ofBits .f32 897988541#32 = ((e : ℝ) : EReal) from hE, EReal.top_add_coe]
  rfl

/-- The norm of a row is real, if the gain is. -/
theorem norm_real (x : Fin 1024 → EReal) (g : Fin 1024 → ℝ) : ∃ h : Fin 1024 → ℝ, ∀ d, Mlp.norm x (fun d => (g d : EReal)) d = (h d : EReal) := by
  by_cases hx : ∀ d, ∃ a : ℝ, x d = a
  · choose x' hx using hx
    obtain rfl : x = fun d => (x' d : EReal) := funext hx
    have hi : ∃ b : ℝ, Mlp.inv (fun d => (x' d : EReal)) = (b : EReal) := by
      unfold Mlp.inv
      simp only [← EReal.coe_mul, coe_sum]
      rw [show Ideal.ofBits FTy.f32 1149239296#32 = ((1024 : ℝ) : EReal) from Consts.ofBits_1024, Ideal.div_coe (by norm_num),
        ← EReal.coe_mul]
      exact rsqrt_real _ (mul_nonneg (Finset.sum_nonneg fun i _ => mul_self_nonneg _) (by norm_num))
    obtain ⟨b, hb⟩ := hi
    exact ⟨fun d => x' d * b * g d, fun d => by simp only [Mlp.norm, hb, ← EReal.coe_mul]⟩
  · simp only [not_forall, not_exists] at hx
    obtain ⟨i, hi⟩ := hx
    exact ⟨fun _ => 0, fun d => by simp [Mlp.norm, inv_zero x i hi]⟩

/-- The gate's values are real, if the gain and the weights are. -/
theorem gate_real (x g : Fin 1024 → EReal) (w : Fin 1024 → Fin 6144 → EReal)
    (hg : ∀ d, ∃ a : ℝ, g d = a) (hw : ∀ d j, ∃ a : ℝ, w d j = a) :
    ∃ u : Fin 3072 → ℝ, ∀ j, gate (Mlp.norm x g) w j = (u j : EReal) := by
  choose g' hg using hg
  choose w' hw using hw
  obtain rfl : g = fun d => (g' d : EReal) := funext hg
  obtain ⟨h, hh⟩ := norm_real x g'
  have key : ∀ j, ∃ a : ℝ, gate (Mlp.norm x fun d => (g' d : EReal)) w j = a := fun j => by
    unfold gate act
    simp only [hh, hw, ← EReal.coe_mul, coe_sum]
    exact gelu_real _
  choose u hu using key
  exact ⟨u, hu⟩

/-- The sum of the squared distances from the mean. -/
theorem var_eq (v : Fin 3072 → ℝ) : (∑ i, (v i - (∑ i, v i) * (1 / 3072)) * (v i - (∑ i, v i) * (1 / 3072))) * (1 / 3072)
    = (∑ i, v i * v i) * (1 / 3072) - ((∑ i, v i) * (1 / 3072)) * ((∑ i, v i) * (1 / 3072)) := by
  generalize hm : (∑ i, v i) * (1 / 3072) = mu
  have h1 : ∑ i, (v i - mu) * (v i - mu) = ∑ i, v i * v i - 2 * mu * ∑ i, v i + 3072 * (mu * mu) := by
    rw [Finset.sum_congr rfl fun i _ => (by ring : (v i - mu) * (v i - mu) = v i * v i - 2 * mu * v i + mu * mu),
      Finset.sum_add_distrib, Finset.sum_sub_distrib, ← Finset.mul_sum]
    simp
  have h2 : ∑ i, v i = 3072 * mu := by rw [← hm]; ring
  rw [h1, h2]
  ring

/-- The layer norm by the row's scale and shift. -/
theorem layerNorm_eq (v g b : Fin 3072 → EReal) (hv : ∃ u : Fin 3072 → ℝ, ∀ j, v j = (u j : EReal)) (j : Fin 3072) :
    (v j * Ideal.rsqrt ((∑ i, v i * v i) * ((1 / 3072 : ℝ) : EReal) - (∑ i, v i) * ((1 / 3072 : ℝ) : EReal) * ((∑ i, v i) * ((1 / 3072 : ℝ) : EReal))
          + Ideal.ofBits FTy.f32 897988541#32)
        + (0 - (∑ i, v i) * ((1 / 3072 : ℝ) : EReal)) * Ideal.rsqrt ((∑ i, v i * v i) * ((1 / 3072 : ℝ) : EReal)
          - (∑ i, v i) * ((1 / 3072 : ℝ) : EReal) * ((∑ i, v i) * ((1 / 3072 : ℝ) : EReal)) + Ideal.ofBits FTy.f32 897988541#32)) * g j + b j
      = layerNorm v g b j := by
  obtain ⟨u, hu⟩ := hv
  obtain rfl : v = fun j => (u j : EReal) := funext hu
  unfold layerNorm mean
  rw [show Ideal.ofBits FTy.f32 1161822208#32 = ((3072 : ℝ) : EReal) from Consts.ofBits_3072, Ideal.div_coe (by norm_num),
    Ideal.div_coe (by norm_num)]
  simp only [← EReal.coe_mul, ← EReal.coe_sub, coe_sum]
  rw [← var_eq]
  obtain ⟨r, hr⟩ := rsqrt_real ((∑ i, (u i - (∑ i, u i) * (1 / 3072)) * (u i - (∑ i, u i) * (1 / 3072))) * (1 / 3072))
    (mul_nonneg (Finset.sum_nonneg fun i _ => mul_self_nonneg _) (by norm_num))
  rw [hr, ← EReal.coe_zero, ← EReal.coe_sub, ← EReal.coe_mul, ← EReal.coe_mul, ← EReal.coe_add, ← EReal.coe_mul]
  congr 3
  ring

/-- The mix with the weights masked. -/
theorem mixed_eq (v ws : Fin 128 → EReal) (b : EReal) (t : Fin 128) :
    (∑ s : Fin 128, (if s.val ≤ t.val then ws s else 0) * v s) + b = mixed v ws b t := by
  unfold mixed
  refine congrArg (· + b) (Finset.sum_congr rfl fun s _ => ?_)
  by_cases h : s.val ≤ t.val <;> simp [h, mul_comm]

/-- Four pairs of blocks of 384 added to `x` one after the other are `x` plus the whole sum. -/
theorem add_blocks (x : EReal) (f : Fin 3072 → EReal) :
    x + (∑ k : Fin 384, f ⟨k.val, by omega⟩ + ∑ k : Fin 384, f ⟨384 + k.val, by omega⟩)
        + (∑ k : Fin 384, f ⟨768 + k.val, by omega⟩ + ∑ k : Fin 384, f ⟨1152 + k.val, by omega⟩)
        + (∑ k : Fin 384, f ⟨1536 + k.val, by omega⟩ + ∑ k : Fin 384, f ⟨1920 + k.val, by omega⟩)
        + (∑ k : Fin 384, f ⟨2304 + k.val, by omega⟩ + ∑ k : Fin 384, f ⟨2688 + k.val, by omega⟩)
      = x + ∑ j, f j := by
  rw [Mlp.sum_blocks (a := 8) (b := 384) rfl, Fin.sum_univ_eight]
  simp only [add_assoc]
  simp only [show ∀ j : Fin 384, (⟨j.val, by omega⟩ : Fin 3072) = ⟨384 * (0 : Fin 8).val + j.val, by simp; omega⟩ from fun j => Fin.ext (by simp)]
  rfl

/-- A sum over the 3072 gate columns in twelve blocks. -/
theorem sum_twelve (f : Fin 3072 → EReal) :
    (∑ k : Fin 256, f ⟨k.val, by omega⟩) + (∑ k : Fin 256, f ⟨256 + k.val, by omega⟩) + (∑ k : Fin 256, f ⟨512 + k.val, by omega⟩)
        + (∑ k : Fin 256, f ⟨768 + k.val, by omega⟩) + (∑ k : Fin 256, f ⟨1024 + k.val, by omega⟩) + (∑ k : Fin 256, f ⟨1280 + k.val, by omega⟩)
        + (∑ k : Fin 256, f ⟨1536 + k.val, by omega⟩) + (∑ k : Fin 256, f ⟨1792 + k.val, by omega⟩) + (∑ k : Fin 256, f ⟨2048 + k.val, by omega⟩)
        + (∑ k : Fin 256, f ⟨2304 + k.val, by omega⟩) + (∑ k : Fin 256, f ⟨2560 + k.val, by omega⟩) + (∑ k : Fin 256, f ⟨2816 + k.val, by omega⟩)
      = ∑ j, f j := by
  rw [Mlp.sum_blocks (a := 12) (b := 256) rfl]
  rw [Fin.sum_univ_castSucc (n := 11), Fin.sum_univ_castSucc (n := 10), Fin.sum_univ_castSucc (n := 9), Fin.sum_univ_castSucc (n := 8),
    Fin.sum_univ_eight]
  simp only [show ∀ j : Fin 256, (⟨j.val, by omega⟩ : Fin 3072) = ⟨256 * (0 : Fin 12).val + j.val, by simp; omega⟩ from fun j => Fin.ext (by simp)]
  rfl

end Cert.Gmlp

end
-- ==== Proof.Gmlp.Mix.lean ====
/- The kernel's gating: of each block of 768 columns, the product of the first half of the activations with the other half's
   normed columns, mixed over the positions of a chunk, and its product with the output weights. -/
module

public import proofs.«01_k».proof.Proof.Gmlp.Spec
public import proofs.«01_k».proof.Proof.Gen.Kernel6Ideal.Skeleton
public import Idealize.ShloMosaic.Lib.Pipeline.ValueKit
public import Idealize.ShloMosaic.Lib.Pointwise

@[expose] public section

noncomputable section

namespace Cert.Kernel6Ideal.Hand

open Cert.Kernel6Ideal Cert.Kernel6Ideal.Gen Idealize.ShloMosaic

/-- The place of a row in its chunk. -/
def pos (r : Fin 512) : Fin 128 := ⟨r.val % 128, Nat.mod_lt _ (by norm_num)⟩

/-- Row `s` of the chunk of row `r`. -/
def row (r : Fin 512) (s : Fin 128) : Fin 512 := ⟨r.val / 128 * 128 + s.val, by omega⟩

/-- The four chunks of a block of rows, by the row's place. -/
theorem pos_0 {r : Fin 512} (h : r.val < 128) : pos r = ⟨r.val, h⟩ := Fin.ext (by simp only [pos]; omega)
@[inherit_doc pos_0]
theorem pos_1 {r : Fin 512} (h : ¬ r.val < 128) (h1 : r.val - 128 < 128) : pos r = ⟨r.val - 128, h1⟩ :=
  Fin.ext (by simp only [pos]; omega)
@[inherit_doc pos_0]
theorem pos_2 {r : Fin 512} (h : ¬ r.val < 128) (h1 : ¬ r.val - 128 < 128) (h2 : r.val - 128 - 128 < 128) :
    pos r = ⟨r.val - 128 - 128, h2⟩ := Fin.ext (by simp only [pos]; omega)
@[inherit_doc pos_0]
theorem pos_3 {r : Fin 512} (h : ¬ r.val < 128) (h1 : ¬ r.val - 128 < 128) (h2 : ¬ r.val - 128 - 128 < 128) :
    pos r = ⟨r.val - 128 - 128 - 128, by omega⟩ := Fin.ext (by simp only [pos]; omega)
@[inherit_doc pos_0]
theorem row_0 {r : Fin 512} (h : r.val < 128) (s : Fin 128) : row r s = ⟨s.val, by omega⟩ := Fin.ext (by simp only [row]; omega)
@[inherit_doc pos_0]
theorem row_1 {r : Fin 512} (h : ¬ r.val < 128) (_ : r.val - 128 < 128) (s : Fin 128) : row r s = ⟨128 + s.val, by omega⟩ :=
  Fin.ext (by simp only [row]; omega)
@[inherit_doc pos_0]
theorem row_2 {r : Fin 512} (h : ¬ r.val < 128) (h1 : ¬ r.val - 128 < 128) (h2 : r.val - 128 - 128 < 128) (s : Fin 128) :
    row r s = ⟨256 + s.val, by omega⟩ := Fin.ext (by simp only [row]; omega)
@[inherit_doc pos_0]
theorem row_3 {r : Fin 512} (h : ¬ r.val < 128) (h1 : ¬ r.val - 128 < 128) (h2 : ¬ r.val - 128 - 128 < 128) (s : Fin 128) :
    row r s = ⟨384 + s.val, by omega⟩ := Fin.ext (by simp only [row]; omega)
@[inherit_doc pos_0]
theorem self_1 {r : Fin 512} (h : ¬ r.val < 128) : (⟨128 + (r.val - 128), by omega⟩ : Fin 512) = r := Fin.ext (by simp only []; omega)
@[inherit_doc pos_0]
theorem self_2 {r : Fin 512} (h : ¬ r.val < 128) (h1 : ¬ r.val - 128 < 128) :
    (⟨256 + (r.val - 128 - 128), by omega⟩ : Fin 512) = r := Fin.ext (by simp only []; omega)
@[inherit_doc pos_0]
theorem self_3 {r : Fin 512} (h : ¬ r.val < 128) (h1 : ¬ r.val - 128 < 128) (h2 : ¬ r.val - 128 - 128 < 128) :
    (⟨384 + (r.val - 128 - 128 - 128), by omega⟩ : Fin 512) = r := Fin.ext (by simp only []; omega)

/-- One gated column of a row: `u` times the chunk's normed column, mixed with the weights `w` and the bias `b`. -/
def part (u b lg lb : EReal) (w v rs sh : Fin 128 → EReal) : EReal := u * (∑ s, w s * ((v s * rs s + sh s) * lg + lb) + b)

section Blocks

variable (x acc : Vec Ideal S512x1024 .f32) (rs sh : Vec Ideal S512x1 .f32) (lng lnb : Vec Ideal S1x3072 .f32)
  (u u' : Vec Ideal S512x768 .f32) (w0 w1 : Vec Ideal S128x128 .bf16) (ws0 ws1 : Vec Ideal S1x128x128 .f32)
  (b0 b1 : Vec Ideal S1x128x1 .f32) (v0 v1 v2 v3 : Vec Ideal S128x768 .f32) (wo : Vec Ideal S768x1024 .bf16)
  (V : Fin 512 → Fin 3072 → EReal) (a a' : IVec S128x128 32)

set_option maxHeartbeats 1000000
set_option maxRecDepth 4000

/-- The first block of columns. -/
theorem block_0 (h0 : ∀ s j, v0 (ix2 s j) = V ⟨s.val, by omega⟩ ⟨j.val, by omega⟩)
    (h1 : ∀ s j, v1 (ix2 s j) = V ⟨128 + s.val, by omega⟩ ⟨j.val, by omega⟩)
    (h2 : ∀ s j, v2 (ix2 s j) = V ⟨256 + s.val, by omega⟩ ⟨j.val, by omega⟩)
    (h3 : ∀ s j, v3 (ix2 s j) = V ⟨384 + s.val, by omega⟩ ⟨j.val, by omega⟩) (r : Fin 512) (e : Fin 1024) :
    k0_pay65 x rs sh lng lnb u (k0_pay57 k0_pay56 ws0) (k0_pay58 a a' ws1)
        (k0_pay59 rs sh lng lnb a a' u k0_pay56 ws0 ws1 v0 b0 b1)
        (k0_pay61 sh lng lnb u (k0_pay57 k0_pay56 ws0) (k0_pay58 a a' ws1) (k0_pay60 rs v1) b0 b1)
        (k0_pay63 rs sh lng lnb (k0_pay57 k0_pay56 ws0) v2 b0) (k0_pay64 rs sh lng lnb v2) b1 v3 b0 b1 wo (ix2 r e)
      = x (ix2 r e)
        + (∑ k : Fin 384, part (u (ix2 r ⟨k.val, by omega⟩)) (b0 (ix3 0 (pos r) 0)) (lng (ix2 0 ⟨k.val, by omega⟩))
              (lnb (ix2 0 ⟨k.val, by omega⟩)) (fun s => k0_pay57 (F := Ideal) k0_pay56 ws0 (ix2 (pos r) s))
              (fun s => V (row r s) ⟨k.val, by omega⟩) (fun s => rs (ix2 (row r s) 0)) (fun s => sh (ix2 (row r s) 0))
            * wo (ix2 ⟨k.val, by omega⟩ e)
          + ∑ k : Fin 384, part (u (ix2 r ⟨384 + k.val, by omega⟩)) (b1 (ix3 0 (pos r) 0)) (lng (ix2 0 ⟨384 + k.val, by omega⟩))
              (lnb (ix2 0 ⟨384 + k.val, by omega⟩)) (fun s => k0_pay58 (F := Ideal) a a' ws1 (ix2 (pos r) s))
              (fun s => V (row r s) ⟨384 + k.val, by omega⟩) (fun s => rs (ix2 (row r s) 0)) (fun s => sh (ix2 (row r s) 0))
            * wo (ix2 ⟨384 + k.val, by omega⟩ e)) := by
  generalize hw0 : k0_pay57 (F := Ideal) k0_pay56 ws0 = w0
  generalize hw1 : k0_pay58 (F := Ideal) a a' ws1 = w1
  pointwise [k0_pay65, k0_pay59, k0_pay60, k0_pay61, k0_pay62, k0_pay63, k0_pay64, hw0, hw1]
  refine congrArg₂ (· + ·) rfl (congrArg₂ (· + ·) (Finset.sum_congr rfl fun k _ => congrArg₂ (· * ·) ?_ rfl)
    (Finset.sum_congr rfl fun k _ => congrArg₂ (· * ·) ?_ rfl))
  all_goals
    by_cases g : r.val < 128
    · simp only [dif_pos g, part, pos_0 g, row_0 g, h0]
    by_cases g1 : r.val - 128 < 128
    · simp only [dif_neg g, dif_pos g1, part, pos_1 g g1, row_1 g g1, h1, self_1 g]
    by_cases g2 : r.val - 128 - 128 < 128
    · simp only [dif_neg g, dif_neg g1, dif_pos g2, part, pos_2 g g1 g2, row_2 g g1 g2, h2, self_2 g g1]
    · simp only [dif_neg g, dif_neg g1, dif_neg g2, part, pos_3 g g1 g2, row_3 g g1 g2, h3, self_3 g g1 g2]

/-- The second block of columns. -/
theorem block_1 (h0 : ∀ s j, v0 (ix2 s j) = V ⟨s.val, by omega⟩ ⟨768 + j.val, by omega⟩)
    (h1 : ∀ s j, v1 (ix2 s j) = V ⟨128 + s.val, by omega⟩ ⟨768 + j.val, by omega⟩)
    (h2 : ∀ s j, v2 (ix2 s j) = V ⟨256 + s.val, by omega⟩ ⟨768 + j.val, by omega⟩)
    (h3 : ∀ s j, v3 (ix2 s j) = V ⟨384 + s.val, by omega⟩ ⟨768 + j.val, by omega⟩) (r : Fin 512) (e : Fin 1024) :
    k0_pay77 acc u (k0_pay68 a a' ws1)
        (k0_pay71 u (k0_pay68 a a' ws1) (k0_pay69 rs sh lng lnb v0) (k0_pay70 rs sh lng lnb a a' ws0 v0) b0 b1)
        (k0_pay72 rs sh lng lnb u (k0_pay67 a a' ws0) (k0_pay68 a a' ws1) v1 b0 b1)
        (k0_pay74 sh lng lnb u (k0_pay67 a a' ws0) (k0_pay68 a a' ws1) v2 (k0_pay73 rs) b0 b1)
        (k0_pay75 rs sh lng lnb v3) (k0_pay76 rs sh lng lnb (k0_pay67 a a' ws0) v3 b0) b1 wo (ix2 r e)
      = acc (ix2 r e)
        + (∑ k : Fin 384, part (u (ix2 r ⟨k.val, by omega⟩)) (b0 (ix3 0 (pos r) 0)) (lng (ix2 0 ⟨768 + k.val, by omega⟩))
              (lnb (ix2 0 ⟨768 + k.val, by omega⟩)) (fun s => k0_pay67 (F := Ideal) a a' ws0 (ix2 (pos r) s))
              (fun s => V (row r s) ⟨768 + k.val, by omega⟩) (fun s => rs (ix2 (row r s) 0)) (fun s => sh (ix2 (row r s) 0))
            * wo (ix2 ⟨k.val, by omega⟩ e)
          + ∑ k : Fin 384, part (u (ix2 r ⟨384 + k.val, by omega⟩)) (b1 (ix3 0 (pos r) 0)) (lng (ix2 0 ⟨1152 + k.val, by omega⟩))
              (lnb (ix2 0 ⟨1152 + k.val, by omega⟩)) (fun s => k0_pay68 (F := Ideal) a a' ws1 (ix2 (pos r) s))
              (fun s => V (row r s) ⟨1152 + k.val, by omega⟩) (fun s => rs (ix2 (row r s) 0)) (fun s => sh (ix2 (row r s) 0))
            * wo (ix2 ⟨384 + k.val, by omega⟩ e)) := by
  generalize hw0 : k0_pay67 (F := Ideal) a a' ws0 = w0
  generalize hw1 : k0_pay68 (F := Ideal) a a' ws1 = w1
  pointwise [k0_pay77, k0_pay69, k0_pay70, k0_pay71, k0_pay72, k0_pay73, k0_pay74, k0_pay75, k0_pay76, hw0, hw1]
  refine congrArg₂ (· + ·) rfl (congrArg₂ (· + ·) (Finset.sum_congr rfl fun k _ => congrArg₂ (· * ·) ?_ rfl)
    (Finset.sum_congr rfl fun k _ => congrArg₂ (· * ·) ?_ rfl))
  all_goals
    by_cases g : r.val < 128
    · simp only [dif_pos g, part, pos_0 g, row_0 g, h0, ← Nat.add_assoc, Nat.reduceAdd]
    by_cases g1 : r.val - 128 < 128
    · simp only [dif_neg g, dif_pos g1, part, pos_1 g g1, row_1 g g1, h1, self_1 g, ← Nat.add_assoc, Nat.reduceAdd]
    by_cases g2 : r.val - 128 - 128 < 128
    · simp only [dif_neg g, dif_neg g1, dif_pos g2, part, pos_2 g g1 g2, row_2 g g1 g2, h2, self_2 g g1, ← Nat.add_assoc, Nat.reduceAdd]
    · simp only [dif_neg g, dif_neg g1, dif_neg g2, part, pos_3 g g1 g2, row_3 g g1 g2, h3, self_3 g g1 g2, ← Nat.add_assoc, Nat.reduceAdd]

/-- The third block of columns. -/
theorem block_2 (h0 : ∀ s j, v0 (ix2 s j) = V ⟨s.val, by omega⟩ ⟨1536 + j.val, by omega⟩)
    (h1 : ∀ s j, v1 (ix2 s j) = V ⟨128 + s.val, by omega⟩ ⟨1536 + j.val, by omega⟩)
    (h2 : ∀ s j, v2 (ix2 s j) = V ⟨256 + s.val, by omega⟩ ⟨1536 + j.val, by omega⟩)
    (h3 : ∀ s j, v3 (ix2 s j) = V ⟨384 + s.val, by omega⟩ ⟨1536 + j.val, by omega⟩) (r : Fin 512) (e : Fin 1024) :
    k0_pay87 sh lng lnb acc u (k0_pay79 a a' ws0) (k0_pay80 a a' ws1)
        (k0_pay81 rs sh lng lnb u (k0_pay79 a a' ws0) (k0_pay80 a a' ws1) v0 b0 b1)
        (k0_pay84 u (k0_pay80 a a' ws1) (k0_pay82 rs sh lng lnb v1) (k0_pay83 rs sh lng lnb (k0_pay79 a a' ws0) v1) b0 b1)
        (k0_pay85 rs sh lng lnb u (k0_pay79 a a' ws0) (k0_pay80 a a' ws1) v2 b0 b1) v3 (k0_pay86 rs) b0 b1 wo (ix2 r e)
      = acc (ix2 r e)
        + (∑ k : Fin 384, part (u (ix2 r ⟨k.val, by omega⟩)) (b0 (ix3 0 (pos r) 0)) (lng (ix2 0 ⟨1536 + k.val, by omega⟩))
              (lnb (ix2 0 ⟨1536 + k.val, by omega⟩)) (fun s => k0_pay79 (F := Ideal) a a' ws0 (ix2 (pos r) s))
              (fun s => V (row r s) ⟨1536 + k.val, by omega⟩) (fun s => rs (ix2 (row r s) 0)) (fun s => sh (ix2 (row r s) 0))
            * wo (ix2 ⟨k.val, by omega⟩ e)
          + ∑ k : Fin 384, part (u (ix2 r ⟨384 + k.val, by omega⟩)) (b1 (ix3 0 (pos r) 0)) (lng (ix2 0 ⟨1920 + k.val, by omega⟩))
              (lnb (ix2 0 ⟨1920 + k.val, by omega⟩)) (fun s => k0_pay80 (F := Ideal) a a' ws1 (ix2 (pos r) s))
              (fun s => V (row r s) ⟨1920 + k.val, by omega⟩) (fun s => rs (ix2 (row r s) 0)) (fun s => sh (ix2 (row r s) 0))
            * wo (ix2 ⟨384 + k.val, by omega⟩ e)) := by
  generalize hw0 : k0_pay79 (F := Ideal) a a' ws0 = w0
  generalize hw1 : k0_pay80 (F := Ideal) a a' ws1 = w1
  pointwise [k0_pay87, k0_pay81, k0_pay82, k0_pay83, k0_pay84, k0_pay85, k0_pay86, hw0, hw1]
  refine congrArg₂ (· + ·) rfl (congrArg₂ (· + ·) (Finset.sum_congr rfl fun k _ => congrArg₂ (· * ·) ?_ rfl)
    (Finset.sum_congr rfl fun k _ => congrArg₂ (· * ·) ?_ rfl))
  all_goals
    by_cases g : r.val < 128
    · simp only [dif_pos g, part, pos_0 g, row_0 g, h0, ← Nat.add_assoc, Nat.reduceAdd]
    by_cases g1 : r.val - 128 < 128
    · simp only [dif_neg g, dif_pos g1, part, pos_1 g g1, row_1 g g1, h1, self_1 g, ← Nat.add_assoc, Nat.reduceAdd]
    by_cases g2 : r.val - 128 - 128 < 128
    · simp only [dif_neg g, dif_neg g1, dif_pos g2, part, pos_2 g g1 g2, row_2 g g1 g2, h2, self_2 g g1, ← Nat.add_assoc, Nat.reduceAdd]
    · simp only [dif_neg g, dif_neg g1, dif_neg g2, part, pos_3 g g1 g2, row_3 g g1 g2, h3, self_3 g g1 g2, ← Nat.add_assoc, Nat.reduceAdd]

/-- The fourth block of columns. -/
theorem block_3 (h0 : ∀ s j, v0 (ix2 s j) = V ⟨s.val, by omega⟩ ⟨2304 + j.val, by omega⟩)
    (h1 : ∀ s j, v1 (ix2 s j) = V ⟨128 + s.val, by omega⟩ ⟨2304 + j.val, by omega⟩)
    (h2 : ∀ s j, v2 (ix2 s j) = V ⟨256 + s.val, by omega⟩ ⟨2304 + j.val, by omega⟩)
    (h3 : ∀ s j, v3 (ix2 s j) = V ⟨384 + s.val, by omega⟩ ⟨2304 + j.val, by omega⟩) (r : Fin 512) (e : Fin 1024) :
    k0_pay1 acc (k0_pay98 rs sh lng lnb (k0_pay91 u u') (k0_pay92 a a' ws0) (k0_pay93 a a' ws1)
        (k0_pay94 rs sh lng lnb a a' u u' ws0 ws1 v0 b0 b1)
        (k0_pay95 rs sh lng lnb (k0_pay91 u u') (k0_pay92 a a' ws0) (k0_pay93 a a' ws1) v1 b0 b1)
        (k0_pay96 rs sh lng lnb v2) (k0_pay97 rs sh lng lnb (k0_pay92 a a' ws0) v2) b0 b1 v3 b0 b1) wo (ix2 r e)
      = acc (ix2 r e)
        + (∑ k : Fin 384, part (k0_pay91 (F := Ideal) u u' (ix2 r ⟨k.val, by omega⟩)) (b0 (ix3 0 (pos r) 0)) (lng (ix2 0 ⟨2304 + k.val, by omega⟩))
              (lnb (ix2 0 ⟨2304 + k.val, by omega⟩)) (fun s => k0_pay92 (F := Ideal) a a' ws0 (ix2 (pos r) s))
              (fun s => V (row r s) ⟨2304 + k.val, by omega⟩) (fun s => rs (ix2 (row r s) 0)) (fun s => sh (ix2 (row r s) 0))
            * wo (ix2 ⟨k.val, by omega⟩ e)
          + ∑ k : Fin 384, part (k0_pay91 (F := Ideal) u u' (ix2 r ⟨384 + k.val, by omega⟩)) (b1 (ix3 0 (pos r) 0)) (lng (ix2 0 ⟨2688 + k.val, by omega⟩))
              (lnb (ix2 0 ⟨2688 + k.val, by omega⟩)) (fun s => k0_pay93 (F := Ideal) a a' ws1 (ix2 (pos r) s))
              (fun s => V (row r s) ⟨2688 + k.val, by omega⟩) (fun s => rs (ix2 (row r s) 0)) (fun s => sh (ix2 (row r s) 0))
            * wo (ix2 ⟨384 + k.val, by omega⟩ e)) := by
  generalize hw0 : k0_pay92 (F := Ideal) a a' ws0 = w0
  generalize hw1 : k0_pay93 (F := Ideal) a a' ws1 = w1
  generalize hu : k0_pay91 (F := Ideal) u u' = y
  pointwise [k0_pay1, k0_pay94, k0_pay95, k0_pay96, k0_pay97, k0_pay98, hu, hw0, hw1]
  refine congrArg₂ (· + ·) rfl (congrArg₂ (· + ·) (Finset.sum_congr rfl fun k _ => congrArg₂ (· * ·) ?_ rfl)
    (Finset.sum_congr rfl fun k _ => congrArg₂ (· * ·) ?_ rfl))
  all_goals
    by_cases g : r.val < 128
    · simp only [dif_pos g, part, pos_0 g, row_0 g, h0, ← Nat.add_assoc, Nat.reduceAdd]
    by_cases g1 : r.val - 128 < 128
    · simp only [dif_neg g, dif_pos g1, part, pos_1 g g1, row_1 g g1, h1, self_1 g, ← Nat.add_assoc, Nat.reduceAdd]
    by_cases g2 : r.val - 128 - 128 < 128
    · simp only [dif_neg g, dif_neg g1, dif_pos g2, part, pos_2 g g1 g2, row_2 g g1 g2, h2, self_2 g g1, ← Nat.add_assoc, Nat.reduceAdd]
    · simp only [dif_neg g, dif_neg g1, dif_neg g2, part, pos_3 g g1 g2, row_3 g g1 g2, h3, self_3 g g1 g2, ← Nat.add_assoc, Nat.reduceAdd]

end Blocks

end Cert.Kernel6Ideal.Hand

end
-- ==== Proof.Gmlp.Gate.lean ====
/- The gate's columns of one block of rows, in their twelve pieces, and the rows' scale and shift from them. -/
module

public import proofs.«01_k».proof.Proof.Gmlp.Norm
public import proofs.«01_k».proof.Proof.Gmlp.Mix
public import proofs.«01_k».proof.Proof.Gen.Kernel6Ideal.Value
public import Idealize.ShloMosaic.Lib.Pipeline.ValueKit
public import Idealize.ShloMosaic.Lib.Pointwise

@[expose] public section

noncomputable section

namespace Cert.Kernel6Ideal.Hand

open Cert.Kernel6Ideal Cert.Kernel6Ideal.Gen Idealize.ShloMosaic Idealize.ShloMosaic.TcCoe Idealize.SL.Sem

set_option maxHeartbeats 1000000

/-- The factor inside the error function is the inverse root of 2. -/
theorem inv_sqrt2 : Named.named (F := Ideal) κ "inv_sqrt2" (φ := .f32) 0x3F3504F3#32 = (((Real.sqrt 2)⁻¹ : ℝ) : EReal) :=
  IdealRules.named_const.ideal_named_scalar _ _ _ _ rfl

/-- The factor of the two sums is one over the number of the columns. -/
theorem inv_half : Named.named (F := Ideal) κ "inv_half" (φ := .f32) 0x39AAAAAB#32 = ((1 / 3072 : ℝ) : EReal) :=
  IdealRules.named_const.ideal_named_scalar _ _ _ _ rfl

/-- A column of the second half of the activations is one of the gate's. -/
theorem gate_col (H : Fin 1024 → EReal) (W : Fin 1024 → Fin 6144 → EReal) {o q j : ℕ} (ho : o + j < 6144) (hq : q + j < 3072)
    (h : o = 3072 + q) : Gmlp.gelu (∑ d, H d * W d ⟨o + j, ho⟩) = Gmlp.gate H W ⟨q + j, hq⟩ := by
  subst h
  unfold Gmlp.gate Gmlp.act
  simp only [Nat.add_assoc]

section Pieces

variable (x0 : Vec Ideal S512x1024 .f32) (x1 : Vec Ideal S1x1024 .f32) (x2 : Vec Ideal S1024x6144 .bf16)
  (h : FVec Ideal S512x1024 .bf16) (r : Fin 512) (j : Fin 256)

/-- The normed rows. -/
theorem hidden_apply (d : Fin 1024) :
    k0_pay4 x0 x1 (ix2 r d) = Mlp.norm (fun d => x0 (ix2 r d)) (fun d => x1 (ix2 0 d)) d := by
  pointwise [k0_pay4]
  rfl

theorem gate_0 : k0_pay10 (k0_pay8 x0 x1 (View.ld x2 (Rect.unit ![0, 3072] ![1024, 256] inb_S1024x6144_S1024x256_0_3072)))
      (k0_pay9 x0 x1 (View.ld x2 (Rect.unit ![0, 3072] ![1024, 256] inb_S1024x6144_S1024x256_0_3072))) (ix2 r j)
    = Gmlp.gate (fun d => k0_pay4 x0 x1 (ix2 r d)) (fun d j => x2 (ix2 d j)) ⟨j.val, by omega⟩ := by
  pointwise [k0_pay7, k0_pay8, k0_pay9, k0_pay10, inv_sqrt2]
  rfl

theorem gate_1 : k0_pay12 h (View.ld x2 (Rect.unit ![0, 3328] ![1024, 256] inb_S1024x6144_S1024x256_0_3328)) (ix2 r j)
    = Gmlp.gate (fun d => h (ix2 r d)) (fun d j => x2 (ix2 d j)) ⟨256 + j.val, by omega⟩ := by
  pointwise [k0_pay12, inv_sqrt2]
  exact gate_col (fun d => h (ix2 r d)) (fun d j => x2 (ix2 d j)) (o := 3328) (q := 256) (j := j.val) (by omega) (by omega) rfl

theorem gate_2 : k0_pay18 (k0_pay16 h (View.ld x2 (Rect.unit ![0, 3584] ![1024, 256] inb_S1024x6144_S1024x256_0_3584))) k0_pay17 (ix2 r j)
    = Gmlp.gate (fun d => h (ix2 r d)) (fun d j => x2 (ix2 d j)) ⟨512 + j.val, by omega⟩ := by
  pointwise [k0_pay16, k0_pay17, k0_pay18, inv_sqrt2]
  exact gate_col (fun d => h (ix2 r d)) (fun d j => x2 (ix2 d j)) (o := 3584) (q := 512) (j := j.val) (by omega) (by omega) rfl

theorem gate_3 : k0_pay20 h (View.ld x2 (Rect.unit ![0, 3840] ![1024, 256] inb_S1024x6144_S1024x256_0_3840)) (ix2 r j)
    = Gmlp.gate (fun d => h (ix2 r d)) (fun d j => x2 (ix2 d j)) ⟨768 + j.val, by omega⟩ := by
  pointwise [k0_pay20, inv_sqrt2]
  exact gate_col (fun d => h (ix2 r d)) (fun d j => x2 (ix2 d j)) (o := 3840) (q := 768) (j := j.val) (by omega) (by omega) rfl

theorem gate_4 : k0_pay25 h (k0_pay24 (View.ld x2 (Rect.unit ![0, 4096] ![1024, 256] inb_S1024x6144_S1024x256_0_4096))) (ix2 r j)
    = Gmlp.gate (fun d => h (ix2 r d)) (fun d j => x2 (ix2 d j)) ⟨1024 + j.val, by omega⟩ := by
  pointwise [k0_pay24, k0_pay25, inv_sqrt2]
  exact gate_col (fun d => h (ix2 r d)) (fun d j => x2 (ix2 d j)) (o := 4096) (q := 1024) (j := j.val) (by omega) (by omega) rfl

theorem gate_5 : k0_pay27 h (View.ld x2 (Rect.unit ![0, 4352] ![1024, 256] inb_S1024x6144_S1024x256_0_4352)) (ix2 r j)
    = Gmlp.gate (fun d => h (ix2 r d)) (fun d j => x2 (ix2 d j)) ⟨1280 + j.val, by omega⟩ := by
  pointwise [k0_pay27, inv_sqrt2]
  exact gate_col (fun d => h (ix2 r d)) (fun d j => x2 (ix2 d j)) (o := 4352) (q := 1280) (j := j.val) (by omega) (by omega) rfl

theorem gate_6 : k0_pay31 h (View.ld x2 (Rect.unit ![0, 4608] ![1024, 256] inb_S1024x6144_S1024x256_0_4608)) (ix2 r j)
    = Gmlp.gate (fun d => h (ix2 r d)) (fun d j => x2 (ix2 d j)) ⟨1536 + j.val, by omega⟩ := by
  pointwise [k0_pay31, inv_sqrt2]
  exact gate_col (fun d => h (ix2 r d)) (fun d j => x2 (ix2 d j)) (o := 4608) (q := 1536) (j := j.val) (by omega) (by omega) rfl

theorem gate_7 : k0_pay34 h (View.ld x2 (Rect.unit ![0, 4864] ![1024, 256] inb_S1024x6144_S1024x256_0_4864)) (ix2 r j)
    = Gmlp.gate (fun d => h (ix2 r d)) (fun d j => x2 (ix2 d j)) ⟨1792 + j.val, by omega⟩ := by
  pointwise [k0_pay34, inv_sqrt2]
  exact gate_col (fun d => h (ix2 r d)) (fun d j => x2 (ix2 d j)) (o := 4864) (q := 1792) (j := j.val) (by omega) (by omega) rfl

theorem gate_8 : k0_pay38 h (View.ld x2 (Rect.unit ![0, 5120] ![1024, 256] inb_S1024x6144_S1024x256_0_5120)) (ix2 r j)
    = Gmlp.gate (fun d => h (ix2 r d)) (fun d j => x2 (ix2 d j)) ⟨2048 + j.val, by omega⟩ := by
  pointwise [k0_pay38, inv_sqrt2]
  exact gate_col (fun d => h (ix2 r d)) (fun d j => x2 (ix2 d j)) (o := 5120) (q := 2048) (j := j.val) (by omega) (by omega) rfl

theorem gate_9 : k0_pay42 h (View.ld x2 (Rect.unit ![0, 5376] ![1024, 256] inb_S1024x6144_S1024x256_0_5376)) (ix2 r j)
    = Gmlp.gate (fun d => h (ix2 r d)) (fun d j => x2 (ix2 d j)) ⟨2304 + j.val, by omega⟩ := by
  pointwise [k0_pay42, inv_sqrt2]
  exact gate_col (fun d => h (ix2 r d)) (fun d j => x2 (ix2 d j)) (o := 5376) (q := 2304) (j := j.val) (by omega) (by omega) rfl

theorem gate_10 : k0_pay44 h (View.ld x2 (Rect.unit ![0, 5632] ![1024, 256] inb_S1024x6144_S1024x256_0_5632)) (ix2 r j)
    = Gmlp.gate (fun d => h (ix2 r d)) (fun d j => x2 (ix2 d j)) ⟨2560 + j.val, by omega⟩ := by
  pointwise [k0_pay44, inv_sqrt2]
  exact gate_col (fun d => h (ix2 r d)) (fun d j => x2 (ix2 d j)) (o := 5632) (q := 2560) (j := j.val) (by omega) (by omega) rfl

theorem gate_11 : k0_pay48 h (View.ld x2 (Rect.unit ![0, 5888] ![1024, 256] inb_S1024x6144_S1024x256_0_5888)) (ix2 r j)
    = Gmlp.gate (fun d => h (ix2 r d)) (fun d j => x2 (ix2 d j)) ⟨2816 + j.val, by omega⟩ := by
  pointwise [k0_pay48, inv_sqrt2]
  exact gate_col (fun d => h (ix2 r d)) (fun d j => x2 (ix2 d j)) (o := 5888) (q := 2816) (j := j.val) (by omega) (by omega) rfl

end Pieces

end Cert.Kernel6Ideal.Hand

end
-- ==== Proof.Gmlp.Rows.lean ====
/- The scale and the shift of a block's rows, and what the loads of the kept gate read. -/
module

public import proofs.«01_k».proof.Proof.Gmlp.Gate

@[expose] public section

noncomputable section

namespace Cert.Kernel6Ideal.Hand

open Cert.Kernel6Ideal Cert.Kernel6Ideal.Gen Idealize.ShloMosaic Idealize.ShloMosaic.TcCoe Idealize.SL.Sem

set_option maxHeartbeats 4000000

variable (m : (ℓ : Loc nD τ sig) → Buf (Elt Ideal) ℓ)

/-- The gate of row `r` of a point's block. -/
def gateRow (c : Dev nD) (t : Fin cfg0.N) (r : Fin 512) : Fin 3072 → EReal :=
  Gmlp.gate (fun d => k0_pay4 (iblk m c 0 t) (iblk m c 1 t) (ix2 r d)) (fun d j => iblk m c 2 t (ix2 d j))

/-- A row's scale. -/
theorem scale_apply (c : Dev nD) (t : Fin cfg0.N) (r : Fin 512) :
    kernelRun0_A.sl.r_21 c (ms0_0 t) (hs0_0 t) (ms0_1 t) (hs0_1 t) (ms0_2 t) (hs0_2 t) (iblk m c 0 t) (iblk m c 1 t) (iblk m c 2 t) (ix2 r 0)
      = Ideal.rsqrt ((∑ i, gateRow m c t r i * gateRow m c t r i) * ((1 / 3072 : ℝ) : EReal) - (∑ i, gateRow m c t r i) * ((1 / 3072 : ℝ) : EReal) * ((∑ i, gateRow m c t r i) * ((1 / 3072 : ℝ) : EReal)) + Ideal.ofBits FTy.f32 897988541#32) := by
  dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  frame_out
  pointwise [k0_pay5, k0_pay6, k0_pay14, k0_pay15, k0_pay22, k0_pay23, k0_pay29, k0_pay30, k0_pay33, k0_pay36, k0_pay37, k0_pay40, k0_pay41, k0_pay46, k0_pay47, k0_pay50, k0_pay51, k0_pay52, gate_0, gate_1, gate_2, gate_3, gate_4, gate_5, gate_6, gate_7, gate_8, gate_9, gate_10, gate_11, inv_half]
  have e1 := Gmlp.sum_twelve (gateRow m c t r)
  have e2 := Gmlp.sum_twelve fun i => gateRow m c t r i * gateRow m c t r i
  unfold gateRow at e1 e2 ⊢
  rw [e1, e2]

/-- A row's shift. -/
theorem shift_apply (c : Dev nD) (t : Fin cfg0.N) (r : Fin 512) :
    kernelRun0_A.sl.r_22 c (ms0_0 t) (hs0_0 t) (ms0_1 t) (hs0_1 t) (ms0_2 t) (hs0_2 t) (iblk m c 0 t) (iblk m c 1 t) (iblk m c 2 t) (ix2 r 0)
      = (0 - (∑ i, gateRow m c t r i) * ((1 / 3072 : ℝ) : EReal)) * kernelRun0_A.sl.r_21 c (ms0_0 t) (hs0_0 t) (ms0_1 t) (hs0_1 t) (ms0_2 t) (hs0_2 t) (iblk m c 0 t) (iblk m c 1 t) (iblk m c 2 t) (ix2 r 0) := by
  dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  frame_out
  pointwise [k0_pay5, k0_pay6, k0_pay14, k0_pay15, k0_pay22, k0_pay23, k0_pay29, k0_pay30, k0_pay33, k0_pay36, k0_pay37, k0_pay40, k0_pay41, k0_pay46, k0_pay47, k0_pay50, k0_pay52, gate_0, gate_1, gate_2, gate_3, gate_4, gate_5, gate_6, gate_7, gate_8, gate_9, gate_10, gate_11, inv_half]
  have e1 := Gmlp.sum_twelve (gateRow m c t r)
  unfold gateRow at e1 ⊢
  rw [e1]

/-- The twelve pieces of the gate fill it. -/
theorem kept_cover (c : Dev nD) (t : Fin cfg0.N) : ∀ y : S512x3072.Idx, ∃ p ∈ kernelRun0_A.sl.HS0_12 c (ms0_0 t) (hs0_0 t) (ms0_1 t) (hs0_1 t) (ms0_2 t) (hs0_2 t) (iblk m c 0 t) (iblk m c 1 t) (iblk m c 2 t), y ∈ p.1.set :=
  View.cover_of_tiledL _ S512x256.size (by sl_kernel_rfl)

/-- A piece's place. -/
theorem piece_at (c : Dev nD) (t : Fin cfg0.N) {o : ℕ} {inb} (h : o + 256 ≤ 3072) (r : Fin 512) (j : Fin 256) :
    gateRow m c t r ⟨o + j.val, by omega⟩ = (fun y : S512x3072.Idx => gateRow m c t (y 0) (y 1))
      ((Rect.unit (s := S512x3072) ![0, o] ![512, 256] inb).emb (ix2 r j)) := by
  have e0 : (Rect.unit (s := S512x3072) ![0, o] ![512, 256] inb).emb (ix2 r j) 0 = r := Fin.ext (by show 0 + 1 * r.val = r.val; omega)
  have e1 : (Rect.unit (s := S512x3072) ![0, o] ![512, 256] inb).emb (ix2 r j) 1 = (⟨o + j.val, by omega⟩ : Fin 3072) :=
    Fin.ext (by show o + 1 * j.val = o + j.val; omega)
  show _ = gateRow m c t _ _
  rw [e0, e1]

/-- The kept gate. -/
theorem kept_apply (c : Dev nD) (t : Fin cfg0.N) (y : S512x3072.Idx) :
    View.canon (Val := Elt Ideal) (kernelRun0_A.sl.HS0_12 c (ms0_0 t) (hs0_0 t) (ms0_1 t) (hs0_1 t) (ms0_2 t) (hs0_2 t) (iblk m c 0 t) (iblk m c 1 t) (iblk m c 2 t)) y = gateRow m c t (y 0) (y 1) := by
  refine View.canon_apply_of_pieces (Val := Elt Ideal) (fun y : S512x3072.Idx => gateRow m c t (y 0) (y 1)) _
    (fun p hp j => ?_) _ (kept_cover m c t y)
  dsimp only [kernelRun0_A.sl.HS0_12] at hp
  frame_out at hp
  simp only [List.mem_cons, List.mem_nil_iff, or_false] at hp
  rcases hp with rfl | rfl | rfl | rfl | rfl | rfl | rfl | rfl | rfl | rfl | rfl | rfl
  all_goals
    idx_vars j
    refine Eq.trans ?_ (piece_at m c t (by omega) j0 j1)
    pointwise [k0_pay49, k0_pay45, k0_pay43, k0_pay39, k0_pay35, k0_pay32, k0_pay28, k0_pay26, k0_pay21, k0_pay19, k0_pay13, k0_pay11, gate_0, gate_1, gate_2, gate_3, gate_4, gate_5, gate_6, gate_7, gate_8, gate_9, gate_10, gate_11]
    rfl

/-- What a load of the kept gate reads. -/
theorem load_at (c : Dev nD) (t : Fin cfg0.N) {q o : ℕ} {inb} (hq : q + 128 ≤ 512) (ho : o + 768 ≤ 3072) (s : Fin 128) (j : Fin 768) :
    scM0_0.view.readCov (Val := Elt Ideal) (kernelRun0_A.sl.HS0_12 c (ms0_0 t) (hs0_0 t) (ms0_1 t) (hs0_1 t) (ms0_2 t) (hs0_2 t) (iblk m c 0 t) (iblk m c 1 t) (iblk m c 2 t)) (Rect.unit (s := S512x3072) ![q, o] ![128, 768] inb).toLoadRect (ix2 s j)
      = gateRow m c t ⟨q + s.val, by omega⟩ ⟨o + j.val, by omega⟩ := by
  refine (congrFun (View.readCov_eq_canon (Val := Elt Ideal) _ _ _ fun j => kept_cover m c t _) _).trans ((kept_apply m c t _).trans ?_)
  refine congrArg₂ (gateRow m c t) (Fin.ext ?_) (Fin.ext ?_)
  · show q + 1 * s.val = q + s.val
    omega
  · show o + 1 * j.val = o + j.val
    omega

end Cert.Kernel6Ideal.Hand

end
-- ==== Proof.Gmlp.Entry.lean ====
/- What the parts of one block's output read, and one column's term in it. -/
module

public import proofs.«01_k».proof.Proof.Gmlp.Rows

@[expose] public section

noncomputable section

namespace Cert.Kernel6Ideal.Hand

open Cert.Kernel6Ideal Cert.Kernel6Ideal.Gen Idealize.ShloMosaic Idealize.ShloMosaic.TcCoe Idealize.SL.Sem

set_option maxHeartbeats 2000000

variable (m : (ℓ : Loc nD τ sig) → Buf (Elt Ideal) ℓ)

/-- The normed row `r` of a point's block. -/
def hidden (c : Dev nD) (t : Fin cfg0.N) (r : Fin 512) : Fin 1024 → EReal :=
  fun d => k0_pay4 (iblk m c 0 t) (iblk m c 1 t) (ix2 r d)

/-- The input projection's matrix, of a point's block. -/
def winT (c : Dev nD) (t : Fin cfg0.N) : Fin 1024 → Fin 6144 → EReal := fun d j => iblk m c 2 t (ix2 d j)

/-- The layer norm of row `r` of a point's gate. -/
def normed (c : Dev nD) (t : Fin cfg0.N) (r : Fin 512) : Fin 3072 → EReal :=
  Gmlp.layerNorm (gateRow m c t r) (fun j => iblk m c 3 t (ix2 0 j)) (fun j => iblk m c 4 t (ix2 0 j))

/-- The mixing matrices, of a point's block. -/
def mixT (c : Dev nD) (t : Fin cfg0.N) : Fin 8 → Fin 128 → Fin 128 → EReal := fun g p s => iblk m c 5 t (ix3 g p s)

/-- The rows of a point's block. -/
def rowsT (c : Dev nD) (t : Fin cfg0.N) : Fin 512 → Fin 1024 → EReal := fun r e => iblk m c 0 t (ix2 r e)

/-- The row's input. -/
theorem x_at (c : Dev nD) (t : Fin cfg0.N) (r : Fin 512) (e : Fin 1024) :
    kernelRun0_A.sl.r c (ms0_0 t) (hs0_0 t) (iblk m c 0 t) (ix2 r e) = rowsT m c t r e := by
  unfold rowsT
  dsimp only [kernelRun0_A.sl.r]
  frame_out
  pointwise

/-- The layer norm's scales. -/
theorem lng_at (c : Dev nD) (t : Fin cfg0.N) (j : Fin 3072) :
    kernelRun0_A.sl.r_23 c (ms0_3 t) (hs0_3 t) (iblk m c 3 t) (ix2 0 j) = iblk m c 3 t (ix2 0 j) := by
  dsimp only [kernelRun0_A.sl.r_23]
  frame_out
  pointwise [k0_pay53]

/-- The layer norm's shifts. -/
theorem lnb_at (c : Dev nD) (t : Fin cfg0.N) (j : Fin 3072) :
    kernelRun0_A.sl.r_24 c (ms0_4 t) (hs0_4 t) (iblk m c 4 t) (ix2 0 j) = iblk m c 4 t (ix2 0 j) := by
  dsimp only [kernelRun0_A.sl.r_24]
  frame_out
  pointwise [k0_pay54]

/-- A load of rows of the output projection. -/
theorem wo_at (c : Dev nD) (t : Fin cfg0.N) {q : ℕ} {inb} (hq : q + 768 ≤ 3072) (k : Fin 768) (e : Fin 1024) :
    View.readAt (Elt Ideal) (ms0_7 t).view (Rect.unit (s := S3072x1024) ![q, 0] ![768, 1024] inb).toLoadRect
      ((hs0_7 t).unread (iblk m c 7 t)) (ix2 k e) = iblk m c 7 t (ix2 ⟨q + k.val, by omega⟩ e) := by
  frame_out
  pointwise

/-- A load of one group's biases. -/
theorem bias_at (c : Dev nD) (t : Fin cfg0.N) {g : ℕ} {inb} (hg : g < 8) (p : Fin 128) :
    View.readAt (Elt Ideal) (ms0_6 t).view (Rect.unit (s := S8x128x1) ![g, 0, 0] ![1, 128, 1] inb).toLoadRect
      ((hs0_6 t).unread (iblk m c 6 t)) (ix3 0 p 0) = iblk m c 6 t (ix3 ⟨g, hg⟩ p 0) := by
  frame_out
  pointwise

/-- A load of one group's mixing matrix. -/
theorem ws_at (c : Dev nD) (t : Fin cfg0.N) {g : ℕ} {inb} (hg : g < 8) (p s : Fin 128) :
    View.readAt (Elt Ideal) (ms0_5 t).view (Rect.unit (s := S8x128x128) ![g, 0, 0] ![1, 128, 128] inb).toLoadRect
      ((hs0_5 t).unread (iblk m c 5 t)) (ix3 0 p s) = iblk m c 5 t (ix3 ⟨g, hg⟩ p s) := by
  frame_out
  pointwise

/-- The mixing matrix is cut to the positions up to the row's. -/
theorem mask_0 (w : Vec Ideal S1x128x128 .f32) (p s : Fin 128) :
    k0_pay57 k0_pay56 w (ix2 p s) = if s.val ≤ p.val then w (ix3 0 p s) else 0 := by
  pointwise [k0_pay57, k0_pay56]
  exact Gmlp.select_le s.isLt p.isLt _

theorem mask_1 (w : Vec Ideal S1x128x128 .f32) (p s : Fin 128) :
    k0_pay58 kernelRun0_A.sl.v294 kernelRun0_A.sl.v295 w (ix2 p s) = if s.val ≤ p.val then w (ix3 0 p s) else 0 := by
  pointwise [k0_pay58, kernelRun0_A.sl.v294, kernelRun0_A.sl.v295]
  exact Gmlp.select_le s.isLt p.isLt _

theorem mask_2 (w : Vec Ideal S1x128x128 .f32) (p s : Fin 128) :
    k0_pay67 kernelRun0_A.sl.v294 kernelRun0_A.sl.v295 w (ix2 p s) = if s.val ≤ p.val then w (ix3 0 p s) else 0 := by
  pointwise [k0_pay67, kernelRun0_A.sl.v294, kernelRun0_A.sl.v295]
  exact Gmlp.select_le s.isLt p.isLt _

theorem mask_3 (w : Vec Ideal S1x128x128 .f32) (p s : Fin 128) :
    k0_pay68 kernelRun0_A.sl.v294 kernelRun0_A.sl.v295 w (ix2 p s) = if s.val ≤ p.val then w (ix3 0 p s) else 0 := by
  pointwise [k0_pay68, kernelRun0_A.sl.v294, kernelRun0_A.sl.v295]
  exact Gmlp.select_le s.isLt p.isLt _

theorem mask_4 (w : Vec Ideal S1x128x128 .f32) (p s : Fin 128) :
    k0_pay79 kernelRun0_A.sl.v294 kernelRun0_A.sl.v295 w (ix2 p s) = if s.val ≤ p.val then w (ix3 0 p s) else 0 := by
  pointwise [k0_pay79, kernelRun0_A.sl.v294, kernelRun0_A.sl.v295]
  exact Gmlp.select_le s.isLt p.isLt _

theorem mask_5 (w : Vec Ideal S1x128x128 .f32) (p s : Fin 128) :
    k0_pay80 kernelRun0_A.sl.v294 kernelRun0_A.sl.v295 w (ix2 p s) = if s.val ≤ p.val then w (ix3 0 p s) else 0 := by
  pointwise [k0_pay80, kernelRun0_A.sl.v294, kernelRun0_A.sl.v295]
  exact Gmlp.select_le s.isLt p.isLt _

theorem mask_6 (w : Vec Ideal S1x128x128 .f32) (p s : Fin 128) :
    k0_pay92 kernelRun0_A.sl.v294 kernelRun0_A.sl.v295 w (ix2 p s) = if s.val ≤ p.val then w (ix3 0 p s) else 0 := by
  pointwise [k0_pay92, kernelRun0_A.sl.v294, kernelRun0_A.sl.v295]
  exact Gmlp.select_le s.isLt p.isLt _

theorem mask_7 (w : Vec Ideal S1x128x128 .f32) (p s : Fin 128) :
    k0_pay93 kernelRun0_A.sl.v294 kernelRun0_A.sl.v295 w (ix2 p s) = if s.val ≤ p.val then w (ix3 0 p s) else 0 := by
  pointwise [k0_pay93, kernelRun0_A.sl.v294, kernelRun0_A.sl.v295]
  exact Gmlp.select_le s.isLt p.isLt _

theorem act_0 (c : Dev nD) (t : Fin cfg0.N) (r : Fin 512) (j : Fin 768) :
    kernelRun0_A.sl.r_25 c (ms0_0 t) (hs0_0 t) (ms0_1 t) (hs0_1 t) (ms0_2 t) (hs0_2 t) (iblk m c 0 t) (iblk m c 1 t) (iblk m c 2 t) (ix2 r j)
      = Gmlp.act (hidden m c t r) (winT m c t) ⟨j.val, by omega⟩ := by
  dsimp only [kernelRun0_A.sl.r_25, kernelRun0_A.sl.r_1]
  frame_out
  pointwise [k0_pay55, inv_sqrt2]
  rfl

theorem act_1 (c : Dev nD) (t : Fin cfg0.N) (r : Fin 512) (j : Fin 768) :
    kernelRun0_A.sl.r_35 c (ms0_0 t) (hs0_0 t) (ms0_1 t) (hs0_1 t) (ms0_2 t) (hs0_2 t) (iblk m c 0 t) (iblk m c 1 t) (iblk m c 2 t) (ix2 r j)
      = Gmlp.act (hidden m c t r) (winT m c t) ⟨768 + j.val, by omega⟩ := by
  dsimp only [kernelRun0_A.sl.r_35, kernelRun0_A.sl.r_1]
  frame_out
  pointwise [k0_pay66, inv_sqrt2]
  rfl

theorem act_2 (c : Dev nD) (t : Fin cfg0.N) (r : Fin 512) (j : Fin 768) :
    kernelRun0_A.sl.r_48 c (ms0_0 t) (hs0_0 t) (ms0_1 t) (hs0_1 t) (ms0_2 t) (hs0_2 t) (iblk m c 0 t) (iblk m c 1 t) (iblk m c 2 t) (ix2 r j)
      = Gmlp.act (hidden m c t r) (winT m c t) ⟨1536 + j.val, by omega⟩ := by
  dsimp only [kernelRun0_A.sl.r_48, kernelRun0_A.sl.r_1]
  frame_out
  pointwise [k0_pay78, inv_sqrt2]
  rfl

theorem act_3 (c : Dev nD) (t : Fin cfg0.N) (r : Fin 512) (j : Fin 768) :
    k0_pay91 (kernelRun0_A.sl.r_58 c (ms0_0 t) (hs0_0 t) (ms0_1 t) (hs0_1 t) (ms0_2 t) (hs0_2 t) (iblk m c 0 t) (iblk m c 1 t) (iblk m c 2 t)) (kernelRun0_A.sl.r_59 c (ms0_0 t) (hs0_0 t) (ms0_1 t) (hs0_1 t) (ms0_2 t) (hs0_2 t) (iblk m c 0 t) (iblk m c 1 t) (iblk m c 2 t)) (ix2 r j)
      = Gmlp.act (hidden m c t r) (winT m c t) ⟨2304 + j.val, by omega⟩ := by
  dsimp only [kernelRun0_A.sl.r_58, kernelRun0_A.sl.r_59, kernelRun0_A.sl.r_1]
  frame_out
  pointwise [k0_pay88, k0_pay89, k0_pay90, k0_pay91, inv_sqrt2]
  rfl

/-- One column's term in a row of the output. -/
theorem term_at (c : Dev nD) (t : Fin cfg0.N) (hf : ∀ r, ∃ u : Fin 3072 → ℝ, ∀ j, gateRow m c t r j = (u j : EReal)) (r : Fin 512)
    (e : Fin 1024) (j : Fin 3072) {u b o : EReal} {w : Fin 128 → EReal} {lg lb : EReal} {v : Fin 128 → EReal} {g : Fin 8} (hg : j.val / 384 = g.val)
    (hu : u = Gmlp.act (hidden m c t r) (winT m c t) ⟨j.val, by omega⟩) (hb : b = iblk m c 6 t (ix3 g (pos r) 0))
    (hlg : lg = iblk m c 3 t (ix2 0 j)) (hlb : lb = iblk m c 4 t (ix2 0 j))
    (hw : ∀ s, w s = if s.val ≤ (pos r).val then mixT m c t g (pos r) s else 0)
    (hv : ∀ s, v s = gateRow m c t (row r s) j) (ho : o = iblk m c 7 t (ix2 j e)) :
    part u b lg lb w v (fun s => kernelRun0_A.sl.r_21 c (ms0_0 t) (hs0_0 t) (ms0_1 t) (hs0_1 t) (ms0_2 t) (hs0_2 t) (iblk m c 0 t) (iblk m c 1 t) (iblk m c 2 t) (ix2 (row r s) 0)) (fun s => kernelRun0_A.sl.r_22 c (ms0_0 t) (hs0_0 t) (ms0_1 t) (hs0_1 t) (ms0_2 t) (hs0_2 t) (iblk m c 0 t) (iblk m c 1 t) (iblk m c 2 t) (ix2 (row r s) 0)) * o
      = Gmlp.act (hidden m c t r) (winT m c t) ⟨j.val, by omega⟩
        * Gmlp.mixed (fun s => normed m c t (row r s) j) (mixT m c t ⟨j.val / 384, by omega⟩ (pos r))
            (iblk m c 6 t (ix3 ⟨j.val / 384, by omega⟩ (pos r) 0)) (pos r) * iblk m c 7 t (ix2 j e) := by
  have hgj : (⟨j.val / 384, by omega⟩ : Fin 8) = g := Fin.ext hg
  rw [hgj, hu, hb, hlg, hlb, ho, ← Gmlp.mixed_eq]
  unfold part
  refine congrArg₂ (· * ·) (congrArg₂ (· * ·) rfl (congrArg₂ (· + ·) (Finset.sum_congr rfl fun s _ => ?_) rfl)) rfl
  refine congrArg₂ (· * ·) (hw s) ?_
  have e1 := scale_apply m c t (row r s)
  have e2 := (shift_apply m c t (row r s)).trans (congrArg _ e1)
  have e3 := Gmlp.layerNorm_eq (gateRow m c t (row r s)) (fun j => iblk m c 3 t (ix2 0 j)) (fun j => iblk m c 4 t (ix2 0 j)) (hf (row r s)) j
  refine Eq.trans ?_ e3
  exact congrArg₂ (· + ·) (congrArg₂ (· * ·) (congrArg₂ (· + ·) (congrArg₂ (· * ·) (hv s) e1) e2) rfl) rfl

end Cert.Kernel6Ideal.Hand
-- ==== Proof.Gmlp.Block.lean ====
/- One block of rows of the chunked gMLP: what the kernel leaves of it. -/
module

public import proofs.«01_k».proof.Proof.Gmlp.Entry

@[expose] public section

noncomputable section

namespace Cert.Kernel6Ideal.Hand

open Cert.Kernel6Ideal Cert.Kernel6Ideal.Gen Idealize.ShloMosaic Idealize.ShloMosaic.TcCoe Idealize.SL.Sem

set_option maxHeartbeats 4000000
set_option maxRecDepth 4000

variable (m : (ℓ : Loc nD τ sig) → Buf (Elt Ideal) ℓ)

/-- What the kernel leaves of a block: its rows after the last four groups' terms are added. -/
theorem out_eq (c : Dev nD) (t : Fin cfg0.N) : (outsAt0 m c t).1 = k0_pay1
    (kernelRun0_A.sl.r_57 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (iblk m c 0 t) (iblk m c 1 t) (iblk m c 2 t) (iblk m c 3 t) (iblk m c 4 t) (iblk m c 5 t) (iblk m c 6 t) (iblk m c 7 t))
    (kernelRun0_A.sl.r_67 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (iblk m c 0 t) (iblk m c 1 t) (iblk m c 2 t) (iblk m c 3 t) (iblk m c 4 t) (iblk m c 5 t) (iblk m c 6 t))
    (View.readAt (Elt Ideal) (ms0_7 t).view (Rect.unit (s := S3072x1024) ![2304, 0] S768x1024.size inb_S3072x1024_S768x1024_2304_0).toLoadRect ((hs0_7 t).unread (iblk m c 7 t))) := by
  unfold outsAt0 out0_A_10
  dsimp only [kernelRun0_A]
  rw [View.read_writes_eq_canon (Val := Elt Ideal) _ _ _ (View.cover_of_tiledL _ S512x1024.size (by sl_kernel_rfl))]
  exact View.canon_cons_unit_lit (Val := Elt Ideal) _ _ _ (by decide)

/-- A load of the kept gate from its first row on. -/
theorem load_0 (c : Dev nD) (t : Fin cfg0.N) {o : ℕ} {inb} (ho : o + 768 ≤ 3072) (s : Fin 128) (j : Fin 768) :
    scM0_0.view.readCov (Val := Elt Ideal) (kernelRun0_A.sl.HS0_12 c (ms0_0 t) (hs0_0 t) (ms0_1 t) (hs0_1 t) (ms0_2 t) (hs0_2 t) (iblk m c 0 t) (iblk m c 1 t) (iblk m c 2 t)) (Rect.unit (s := S512x3072) ![0, o] ![128, 768] inb).toLoadRect (ix2 s j)
      = gateRow m c t ⟨s.val, by omega⟩ ⟨o + j.val, by omega⟩ :=
  (load_at m c t (by omega) ho s j).trans (congrArg₂ (gateRow m c t) (Fin.ext (Nat.zero_add _)) rfl)

/-- A load of the kept gate from its first column on. -/
theorem load_z (c : Dev nD) (t : Fin cfg0.N) {q : ℕ} {inb} (hq : q + 128 ≤ 512) (s : Fin 128) (j : Fin 768) :
    scM0_0.view.readCov (Val := Elt Ideal) (kernelRun0_A.sl.HS0_12 c (ms0_0 t) (hs0_0 t) (ms0_1 t) (hs0_1 t) (ms0_2 t) (hs0_2 t) (iblk m c 0 t) (iblk m c 1 t) (iblk m c 2 t)) (Rect.unit (s := S512x3072) ![q, 0] ![128, 768] inb).toLoadRect (ix2 s j)
      = gateRow m c t ⟨q + s.val, by omega⟩ ⟨j.val, by omega⟩ :=
  (load_at m c t hq (by omega) s j).trans (congrArg₂ (gateRow m c t) rfl (Fin.ext (Nat.zero_add _)))

/-- A row of the output, from its block. -/
theorem out_apply (c : Dev nD) (t : Fin cfg0.N) (hf : ∀ r, ∃ u : Fin 3072 → ℝ, ∀ j, gateRow m c t r j = (u j : EReal)) (r : Fin 512)
    (e : Fin 1024) : (outsAt0 m c t).1 (ix2 r e) = rowsT m c t r e + ∑ j : Fin 3072,
      Gmlp.act (hidden m c t r) (winT m c t) ⟨j.val, by omega⟩
        * Gmlp.mixed (fun s => normed m c t (row r s) j) (mixT m c t ⟨j.val / 384, by omega⟩ (pos r))
            (iblk m c 6 t (ix3 ⟨j.val / 384, by omega⟩ (pos r) 0)) (pos r) * iblk m c 7 t (ix2 j e) := by
  rw [out_eq]
  dsimp only [kernelRun0_A.sl.r_67, kernelRun0_A.sl.r_66, kernelRun0_A.sl.r_65, kernelRun0_A.sl.r_64, kernelRun0_A.sl.r_63, kernelRun0_A.sl.r_60, kernelRun0_A.sl.r_61, kernelRun0_A.sl.r_62]
  refine (block_3 (V := gateRow m c t) (h0 := fun s j => load_0 m c t (by omega) s j) (h1 := fun s j => load_at m c t (by omega) (by omega) s j) (h2 := fun s j => load_at m c t (by omega) (by omega) s j) (h3 := fun s j => load_at m c t (by omega) (by omega) s j) ..).trans ?_
  dsimp only [kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49]
  refine (congrArg₂ (· + ·) (block_2 (V := gateRow m c t) (h0 := fun s j => load_0 m c t (by omega) s j) (h1 := fun s j => load_at m c t (by omega) (by omega) s j) (h2 := fun s j => load_at m c t (by omega) (by omega) s j) (h3 := fun s j => load_at m c t (by omega) (by omega) s j) ..) rfl).trans ?_
  dsimp only [kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36]
  refine (congrArg₂ (· + ·) (congrArg₂ (· + ·) (block_1 (V := gateRow m c t) (h0 := fun s j => load_0 m c t (by omega) s j) (h1 := fun s j => load_at m c t (by omega) (by omega) s j) (h2 := fun s j => load_at m c t (by omega) (by omega) s j) (h3 := fun s j => load_at m c t (by omega) (by omega) s j) ..) rfl) rfl).trans ?_
  dsimp only [kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27]
  refine (congrArg₂ (· + ·) (congrArg₂ (· + ·) (congrArg₂ (· + ·) (block_0 (V := gateRow m c t)
    (h0 := fun s j => (load_0 m c t (by omega) s j).trans (congrArg (gateRow m c t _) (Fin.ext (Nat.zero_add _))))
    (h1 := fun s j => load_z m c t (by omega) s j) (h2 := fun s j => load_z m c t (by omega) s j) (h3 := fun s j => load_z m c t (by omega) s j) ..) rfl) rfl) rfl).trans ?_
  dsimp only [kernelRun0_A.sl.r_26]
  refine Eq.trans ?_ (Gmlp.add_blocks (rowsT m c t r e) fun j =>
      Gmlp.act (hidden m c t r) (winT m c t) ⟨j.val, by omega⟩
        * Gmlp.mixed (fun s => normed m c t (row r s) j) (mixT m c t ⟨j.val / 384, by omega⟩ (pos r))
            (iblk m c 6 t (ix3 ⟨j.val / 384, by omega⟩ (pos r) 0)) (pos r) * iblk m c 7 t (ix2 j e))
  refine congrArg₂ (· + ·) (congrArg₂ (· + ·) (congrArg₂ (· + ·) (congrArg₂ (· + ·) (x_at m c t r e) ?_) ?_) ?_) ?_
  · exact (congrArg₂ (· + ·)
    (Finset.sum_congr rfl fun k _ => (term_at m c t hf r e ⟨k.val, by omega⟩ (g := ⟨0, by omega⟩) (by dsimp only <;> omega)
      ((act_0 m c t r ⟨k.val, by omega⟩).trans (congrArg (Gmlp.act (hidden m c t r) (winT m c t)) (Fin.ext (by dsimp only <;> omega))))
      (bias_at m c t (by omega) (pos r)) (lng_at m c t _) (lnb_at m c t _)
      (fun s => (mask_0 _ (pos r) s).trans (congrArg (fun z : EReal => if s.val ≤ (pos r).val then z else 0) (ws_at m c t (by omega) (pos r) s)))
      (fun s => rfl) ((wo_at m c t (by omega) ⟨k.val, by omega⟩ e).trans (congrArg (fun i => iblk m c 7 t (ix2 i e)) (Fin.ext (by dsimp only <;> omega))))))
    (Finset.sum_congr rfl fun k _ => (term_at m c t hf r e ⟨384 + k.val, by omega⟩ (g := ⟨1, by omega⟩) (by dsimp only <;> omega)
      ((act_0 m c t r ⟨384 + k.val, by omega⟩).trans (congrArg (Gmlp.act (hidden m c t r) (winT m c t)) (Fin.ext (by dsimp only <;> omega))))
      (bias_at m c t (by omega) (pos r)) (lng_at m c t _) (lnb_at m c t _)
      (fun s => (mask_1 _ (pos r) s).trans (congrArg (fun z : EReal => if s.val ≤ (pos r).val then z else 0) (ws_at m c t (by omega) (pos r) s)))
      (fun s => rfl) ((wo_at m c t (by omega) ⟨384 + k.val, by omega⟩ e).trans (congrArg (fun i => iblk m c 7 t (ix2 i e)) (Fin.ext (by dsimp only <;> omega)))))))
  · exact (congrArg₂ (· + ·)
    (Finset.sum_congr rfl fun k _ => (term_at m c t hf r e ⟨768 + k.val, by omega⟩ (g := ⟨2, by omega⟩) (by dsimp only <;> omega)
      ((act_1 m c t r ⟨k.val, by omega⟩).trans (congrArg (Gmlp.act (hidden m c t r) (winT m c t)) (Fin.ext (by dsimp only <;> omega))))
      (bias_at m c t (by omega) (pos r)) (lng_at m c t _) (lnb_at m c t _)
      (fun s => (mask_2 _ (pos r) s).trans (congrArg (fun z : EReal => if s.val ≤ (pos r).val then z else 0) (ws_at m c t (by omega) (pos r) s)))
      (fun s => rfl) ((wo_at m c t (by omega) ⟨k.val, by omega⟩ e).trans (congrArg (fun i => iblk m c 7 t (ix2 i e)) (Fin.ext (by dsimp only <;> omega))))))
    (Finset.sum_congr rfl fun k _ => (term_at m c t hf r e ⟨1152 + k.val, by omega⟩ (g := ⟨3, by omega⟩) (by dsimp only <;> omega)
      ((act_1 m c t r ⟨384 + k.val, by omega⟩).trans (congrArg (Gmlp.act (hidden m c t r) (winT m c t)) (Fin.ext (by dsimp only <;> omega))))
      (bias_at m c t (by omega) (pos r)) (lng_at m c t _) (lnb_at m c t _)
      (fun s => (mask_3 _ (pos r) s).trans (congrArg (fun z : EReal => if s.val ≤ (pos r).val then z else 0) (ws_at m c t (by omega) (pos r) s)))
      (fun s => rfl) ((wo_at m c t (by omega) ⟨384 + k.val, by omega⟩ e).trans (congrArg (fun i => iblk m c 7 t (ix2 i e)) (Fin.ext (by dsimp only <;> omega)))))))
  · exact (congrArg₂ (· + ·)
    (Finset.sum_congr rfl fun k _ => (term_at m c t hf r e ⟨1536 + k.val, by omega⟩ (g := ⟨4, by omega⟩) (by dsimp only <;> omega)
      ((act_2 m c t r ⟨k.val, by omega⟩).trans (congrArg (Gmlp.act (hidden m c t r) (winT m c t)) (Fin.ext (by dsimp only <;> omega))))
      (bias_at m c t (by omega) (pos r)) (lng_at m c t _) (lnb_at m c t _)
      (fun s => (mask_4 _ (pos r) s).trans (congrArg (fun z : EReal => if s.val ≤ (pos r).val then z else 0) (ws_at m c t (by omega) (pos r) s)))
      (fun s => rfl) ((wo_at m c t (by omega) ⟨k.val, by omega⟩ e).trans (congrArg (fun i => iblk m c 7 t (ix2 i e)) (Fin.ext (by dsimp only <;> omega))))))
    (Finset.sum_congr rfl fun k _ => (term_at m c t hf r e ⟨1920 + k.val, by omega⟩ (g := ⟨5, by omega⟩) (by dsimp only <;> omega)
      ((act_2 m c t r ⟨384 + k.val, by omega⟩).trans (congrArg (Gmlp.act (hidden m c t r) (winT m c t)) (Fin.ext (by dsimp only <;> omega))))
      (bias_at m c t (by omega) (pos r)) (lng_at m c t _) (lnb_at m c t _)
      (fun s => (mask_5 _ (pos r) s).trans (congrArg (fun z : EReal => if s.val ≤ (pos r).val then z else 0) (ws_at m c t (by omega) (pos r) s)))
      (fun s => rfl) ((wo_at m c t (by omega) ⟨384 + k.val, by omega⟩ e).trans (congrArg (fun i => iblk m c 7 t (ix2 i e)) (Fin.ext (by dsimp only <;> omega)))))))
  · exact (congrArg₂ (· + ·)
    (Finset.sum_congr rfl fun k _ => (term_at m c t hf r e ⟨2304 + k.val, by omega⟩ (g := ⟨6, by omega⟩) (by dsimp only <;> omega)
      ((act_3 m c t r ⟨k.val, by omega⟩).trans (congrArg (Gmlp.act (hidden m c t r) (winT m c t)) (Fin.ext (by dsimp only <;> omega))))
      (bias_at m c t (by omega) (pos r)) (lng_at m c t _) (lnb_at m c t _)
      (fun s => (mask_6 _ (pos r) s).trans (congrArg (fun z : EReal => if s.val ≤ (pos r).val then z else 0) (ws_at m c t (by omega) (pos r) s)))
      (fun s => rfl) ((wo_at m c t (by omega) ⟨k.val, by omega⟩ e).trans (congrArg (fun i => iblk m c 7 t (ix2 i e)) (Fin.ext (by dsimp only <;> omega))))))
    (Finset.sum_congr rfl fun k _ => (term_at m c t hf r e ⟨2688 + k.val, by omega⟩ (g := ⟨7, by omega⟩) (by dsimp only <;> omega)
      ((act_3 m c t r ⟨384 + k.val, by omega⟩).trans (congrArg (Gmlp.act (hidden m c t r) (winT m c t)) (Fin.ext (by dsimp only <;> omega))))
      (bias_at m c t (by omega) (pos r)) (lng_at m c t _) (lnb_at m c t _)
      (fun s => (mask_7 _ (pos r) s).trans (congrArg (fun z : EReal => if s.val ≤ (pos r).val then z else 0) (ws_at m c t (by omega) (pos r) s)))
      (fun s => rfl) ((wo_at m c t (by omega) ⟨384 + k.val, by omega⟩ e).trans (congrArg (fun i => iblk m c 7 t (ix2 i e)) (Fin.ext (by dsimp only <;> omega)))))))

end Cert.Kernel6Ideal.Hand

end
-- ==== Proof.Gmlp.Value.lean ====
/- The value of the chunked gMLP's kernel: one layer's rows, and the two slabs of the next MLP's weights. -/
module

public import proofs.«01_k».proof.Proof.Gmlp.Block

@[expose] public section

noncomputable section

namespace Cert.Kernel6Ideal.Hand

open Cert.Kernel6Ideal Cert.Kernel6Ideal.Gen Idealize.ShloMosaic Idealize.ShloMosaic.TcCoe Idealize.SL.Sem

set_option maxHeartbeats 1000000

variable (m : (ℓ : Loc nD τ sig) → Buf (Elt Ideal) ℓ)

/-- The slab of the next MLP's first weights, rounded. -/
theorem first_apply (c : Dev nD) (t : Fin cfg0.N) (r : Fin 32) (e : Fin 4096) :
    (outsAt0 m c t).2.1 (ix2 r e) = iblk m c 8 t (ix3 0 r e) := by
  unfold outsAt0 out0_A_11
  dsimp only [kernelRun0_A]
  frame_out
  pointwise [k0_pay2]

/-- The slab of the next MLP's second weights, rounded. -/
theorem second_apply (c : Dev nD) (t : Fin cfg0.N) (r : Fin 128) (e : Fin 1024) :
    (outsAt0 m c t).2.2 (ix2 r e) = iblk m c 9 t (ix3 0 r e) := by
  unfold outsAt0 out0_A_12
  dsimp only [kernelRun0_A]
  frame_out
  pointwise [k0_pay3]

/-- The norm's gain as the kernel finds it. -/
theorem V_gain (c : Dev nD) (e : Fin 1024) : V m c main_v0 (ix2 0 e) = m ((c.tc : Thread nD τ).loc main_arg1) (ix1 e) := by
  unfold V
  simp only [hostOps0]
  after_results_simp
  pointwise

/-- The input projection's weights as the kernel finds them. -/
theorem V_win (c : Dev nD) (r : Fin 1024) (e : Fin 6144) : V m c main_v1 (ix2 r e) = m ((c.tc : Thread nD τ).loc main_arg2) (ix2 r e) := by
  unfold V
  simp only [hostOps0]
  after_results_simp
  pointwise

/-- The layer norm's scales as the kernel finds them. -/
theorem V_lng (c : Dev nD) (e : Fin 3072) : V m c main_v2 (ix2 0 e) = m ((c.tc : Thread nD τ).loc main_arg3) (ix1 e) := by
  unfold V
  simp only [hostOps0]
  after_results_simp
  pointwise

/-- The layer norm's shifts as the kernel finds them. -/
theorem V_lnb (c : Dev nD) (e : Fin 3072) : V m c main_v3 (ix2 0 e) = m ((c.tc : Thread nD τ).loc main_arg4) (ix1 e) := by
  unfold V
  simp only [hostOps0]
  after_results_simp
  pointwise

/-- The mixing's biases as the kernel finds them. -/
theorem V_bias (c : Dev nD) (g : Fin 8) (p : Fin 128) : V m c main_v4 (ix3 g p 0) = m ((c.tc : Thread nD τ).loc main_arg6) (ix2 g p) := by
  unfold V
  simp only [hostOps0]
  after_results_simp
  pointwise

/-- The output projection's weights as the kernel finds them. -/
theorem V_wo (c : Dev nD) (r : Fin 3072) (e : Fin 1024) : V m c main_v5 (ix2 r e) = m ((c.tc : Thread nD τ).loc main_arg7) (ix2 r e) := by
  unfold V
  simp only [hostOps0]
  after_results_simp
  pointwise

/-- Where the windows' blocks lie: the rows and the slabs move with the grid, the layer's weights stay. -/
theorem index_0 : ∀ t : Fin cfg0.N, win0_0.index t = ![t.val, 0] := (by decide +kernel : ∀ t : Fin grid0.N, _)
@[inherit_doc index_0]
theorem index_1 : ∀ t : Fin cfg0.N, win0_1.index t = ![0, 0] := (by decide +kernel : ∀ t : Fin grid0.N, _)
@[inherit_doc index_0]
theorem index_2 : ∀ t : Fin cfg0.N, win0_2.index t = ![0, 0] := (by decide +kernel : ∀ t : Fin grid0.N, _)
@[inherit_doc index_0]
theorem index_3 : ∀ t : Fin cfg0.N, win0_3.index t = ![0, 0] := (by decide +kernel : ∀ t : Fin grid0.N, _)
@[inherit_doc index_0]
theorem index_4 : ∀ t : Fin cfg0.N, win0_4.index t = ![0, 0] := (by decide +kernel : ∀ t : Fin grid0.N, _)
@[inherit_doc index_0]
theorem index_5 : ∀ t : Fin cfg0.N, win0_5.index t = ![0, 0, 0] := (by decide +kernel : ∀ t : Fin grid0.N, _)
@[inherit_doc index_0]
theorem index_6 : ∀ t : Fin cfg0.N, win0_6.index t = ![0, 0, 0] := (by decide +kernel : ∀ t : Fin grid0.N, _)
@[inherit_doc index_0]
theorem index_7 : ∀ t : Fin cfg0.N, win0_7.index t = ![0, 0] := (by decide +kernel : ∀ t : Fin grid0.N, _)
@[inherit_doc index_0]
theorem index_8 : ∀ t : Fin cfg0.N, win0_8.index t = ![1, t.val, 0] := (by decide +kernel : ∀ t : Fin grid0.N, _)
@[inherit_doc index_0]
theorem index_9 : ∀ t : Fin cfg0.N, win0_9.index t = ![1, t.val, 0] := (by decide +kernel : ∀ t : Fin grid0.N, _)
@[inherit_doc index_0]
theorem index_10 : ∀ t : Fin cfg0.N, win0_10.index t = ![t.val, 0] := (by decide +kernel : ∀ t : Fin grid0.N, _)
@[inherit_doc index_0]
theorem index_11 : ∀ t : Fin cfg0.N, win0_11.index t = ![t.val, 0] := (by decide +kernel : ∀ t : Fin grid0.N, _)
@[inherit_doc index_0]
theorem index_12 : ∀ t : Fin cfg0.N, win0_12.index t = ![t.val, 0] := (by decide +kernel : ∀ t : Fin grid0.N, _)

/-- Row `r` of block `t` is a row of the array. -/
theorem row_lt {b : ℕ} (t : Fin cfg0.N) (r : Fin b) : b * t.val + r.val < b * 32 := by
  have h : t.val + 1 ≤ 32 := t.isLt
  have h2 := r.isLt
  have h3 := Nat.mul_le_mul_left b h
  rw [Nat.mul_add] at h3
  omega

theorem rows_blk (c : Dev nD) (t : Fin cfg0.N) (r : Fin 512) (d : Fin 1024) :
    iblk m c 0 t (ix2 r d) = m ((c.tc : Thread nD τ).loc main_arg0) (ix2 ⟨512 * t.val + r.val, row_lt t r⟩ d) := by
  unfold iblk
  blk_simp
  rw [V_main_arg0]
  congr 1
  blk_ext [index_0]

theorem gain_blk (c : Dev nD) (t : Fin cfg0.N) (e : Fin 1024) :
    iblk m c 1 t (ix2 0 e) = m ((c.tc : Thread nD τ).loc main_arg1) (ix1 e) := by
  rw [← V_gain m]
  unfold iblk
  blk_simp
  congr 1
  blk_ext [index_1]

theorem win_blk (c : Dev nD) (t : Fin cfg0.N) (r : Fin 1024) (e : Fin 6144) :
    iblk m c 2 t (ix2 r e) = m ((c.tc : Thread nD τ).loc main_arg2) (ix2 r e) := by
  rw [← V_win m]
  unfold iblk
  blk_simp
  congr 1
  blk_ext [index_2]

theorem lng_blk (c : Dev nD) (t : Fin cfg0.N) (e : Fin 3072) :
    iblk m c 3 t (ix2 0 e) = m ((c.tc : Thread nD τ).loc main_arg3) (ix1 e) := by
  rw [← V_lng m]
  unfold iblk
  blk_simp
  congr 1
  blk_ext [index_3]

theorem lnb_blk (c : Dev nD) (t : Fin cfg0.N) (e : Fin 3072) :
    iblk m c 4 t (ix2 0 e) = m ((c.tc : Thread nD τ).loc main_arg4) (ix1 e) := by
  rw [← V_lnb m]
  unfold iblk
  blk_simp
  congr 1
  blk_ext [index_4]

theorem ws_blk (c : Dev nD) (t : Fin cfg0.N) (g : Fin 8) (p s : Fin 128) :
    iblk m c 5 t (ix3 g p s) = m ((c.tc : Thread nD τ).loc main_arg5) (ix3 g p s) := by
  unfold iblk
  blk_simp
  rw [V_main_arg5]
  congr 1
  blk_ext [index_5]

theorem bias_blk (c : Dev nD) (t : Fin cfg0.N) (g : Fin 8) (p : Fin 128) :
    iblk m c 6 t (ix3 g p 0) = m ((c.tc : Thread nD τ).loc main_arg6) (ix2 g p) := by
  rw [← V_bias m]
  unfold iblk
  blk_simp
  congr 1
  blk_ext [index_6]

theorem wo_blk (c : Dev nD) (t : Fin cfg0.N) (r : Fin 3072) (e : Fin 1024) :
    iblk m c 7 t (ix2 r e) = m ((c.tc : Thread nD τ).loc main_arg7) (ix2 r e) := by
  rw [← V_wo m]
  unfold iblk
  blk_simp
  congr 1
  blk_ext [index_7]

theorem first_blk (c : Dev nD) (t : Fin cfg0.N) (r : Fin 32) (e : Fin 4096) :
    iblk m c 8 t (ix3 0 r e) = m ((c.tc : Thread nD τ).loc main_arg8) (ix3 1 ⟨32 * t.val + r.val, row_lt t r⟩ e) := by
  unfold iblk
  blk_simp
  rw [V_main_arg8]
  congr 1
  blk_ext [index_8]

theorem second_blk (c : Dev nD) (t : Fin cfg0.N) (r : Fin 128) (e : Fin 1024) :
    iblk m c 9 t (ix3 0 r e) = m ((c.tc : Thread nD τ).loc main_arg9) (ix3 1 ⟨128 * t.val + r.val, row_lt t r⟩ e) := by
  unfold iblk
  blk_simp
  rw [V_main_arg9]
  congr 1
  blk_ext [index_9]

theorem out_blk10 (t : Fin cfg0.N) (r : Fin 512) (e : Fin 1024) :
    ((win0_10.blk t).view.emb (ix2 r e) : S16384x1024.Idx) = ix2 ⟨512 * t.val + r.val, row_lt t r⟩ e := by
  blk_ext [index_10]

theorem out_blk11 (t : Fin cfg0.N) (r : Fin 32) (e : Fin 4096) :
    ((win0_11.blk t).view.emb (ix2 r e) : S1024x4096.Idx) = ix2 ⟨32 * t.val + r.val, row_lt t r⟩ e := by
  blk_ext [index_11]

theorem out_blk12 (t : Fin cfg0.N) (r : Fin 128) (e : Fin 1024) :
    ((win0_12.blk t).view.emb (ix2 r e) : S4096x1024.Idx) = ix2 ⟨128 * t.val + r.val, row_lt t r⟩ e := by
  blk_ext [index_12]

/-- The layer's rows as one array. -/
def result (m : (ℓ : Loc nD τ sig) → Buf (Elt Ideal) ℓ) (c : Dev nD) : Buf (Elt Ideal) ((c.tc : Thread nD τ).loc main_v6_0) :=
  fun i : S16384x1024.Idx => Gmlp.gmlp (fun d => m ((c.tc : Thread nD τ).loc main_arg0) (ix2 (i 0) d))
    (fun s d => m ((c.tc : Thread nD τ).loc main_arg0) (ix2 ⟨(i 0).val / 128 * 128 + s.val, by have h := (i 0).isLt; simp at h; omega⟩ d))
    (fun d => m ((c.tc : Thread nD τ).loc main_arg1) (ix1 d)) (fun d j => m ((c.tc : Thread nD τ).loc main_arg2) (ix2 d j))
    (fun j => m ((c.tc : Thread nD τ).loc main_arg3) (ix1 j)) (fun j => m ((c.tc : Thread nD τ).loc main_arg4) (ix1 j))
    (fun g t s => m ((c.tc : Thread nD τ).loc main_arg5) (ix3 g t s)) (fun g t => m ((c.tc : Thread nD τ).loc main_arg6) (ix2 g t))
    (fun j e => m ((c.tc : Thread nD τ).loc main_arg7) (ix2 j e)) ⟨(i 0).val % 128, Nat.mod_lt _ (by norm_num)⟩ (i 1)

/-- The next MLP's first weights. -/
def first (m : (ℓ : Loc nD τ sig) → Buf (Elt Ideal) ℓ) (c : Dev nD) : Buf (Elt Ideal) ((c.tc : Thread nD τ).loc main_v6_1) :=
  fun i : S1024x4096.Idx => m ((c.tc : Thread nD τ).loc main_arg8) (ix3 1 (i 0) (i 1))

/-- The next MLP's second weights. -/
def second (m : (ℓ : Loc nD τ sig) → Buf (Elt Ideal) ℓ) (c : Dev nD) : Buf (Elt Ideal) ((c.tc : Thread nD τ).loc main_v6_2) :=
  fun i : S4096x1024.Idx => m ((c.tc : Thread nD τ).loc main_arg9) (ix3 1 (i 0) (i 1))

/-- The gain and the input projection's weights are real numbers. -/
def Real (m : (ℓ : Loc nD τ sig) → Buf (Elt Ideal) ℓ) : Prop := ∀ c : Dev nD,
  (∀ d : Fin 1024, ∃ a : ℝ, m ((c.tc : Thread nD τ).loc main_arg1) (ix1 d) = (a : EReal))
  ∧ ∀ (d : Fin 1024) (j : Fin 6144), ∃ a : ℝ, m ((c.tc : Thread nD τ).loc main_arg2) (ix2 d j) = (a : EReal)

/-- A normed row, from the arrays. -/
theorem hidden_eq (c : Dev nD) (t : Fin cfg0.N) (r : Fin 512) :
    hidden m c t r = Mlp.norm (fun d => m ((c.tc : Thread nD τ).loc main_arg0) (ix2 ⟨512 * t.val + r.val, row_lt t r⟩ d))
      (fun d => m ((c.tc : Thread nD τ).loc main_arg1) (ix1 d)) := by
  funext d
  unfold hidden
  rw [hidden_apply]
  simp only [rows_blk, gain_blk]

/-- A row's gate, from the arrays. -/
theorem gateRow_eq (c : Dev nD) (t : Fin cfg0.N) (r : Fin 512) :
    gateRow m c t r = Gmlp.gate (Mlp.norm (fun d => m ((c.tc : Thread nD τ).loc main_arg0) (ix2 ⟨512 * t.val + r.val, row_lt t r⟩ d))
      (fun d => m ((c.tc : Thread nD τ).loc main_arg1) (ix1 d))) (fun d j => m ((c.tc : Thread nD τ).loc main_arg2) (ix2 d j)) := by
  rw [← hidden_eq]
  unfold gateRow hidden
  simp only [win_blk]

/-- A row of the chunk of row `r` of a block, as a row of the array. -/
theorem row_eq (t : Fin cfg0.N) (r : Fin 512) (s : Fin 128) :
    (⟨512 * t.val + (row r s).val, row_lt t (row r s)⟩ : Fin 16384) = ⟨(512 * t.val + r.val) / 128 * 128 + s.val, by have h := row_lt t r; omega⟩ :=
  Fin.ext (by unfold row; dsimp only; omega)

/-- A row's position in its chunk. -/
theorem pos_eq (t : Fin cfg0.N) (r : Fin 512) : pos r = ⟨(512 * t.val + r.val) % 128, Nat.mod_lt _ (by norm_num)⟩ :=
  Fin.ext (by unfold pos; dsimp only; omega)

theorem arr_result (h : Real m) (c : Dev nD) : (dats m 0 c).arrAt 10 cfg0.N = result m c := by
  refine (dats m 0 c).arrAt_eq_of_covers 10 _ (by decide +kernel) fun t hf y => ?_
  blk_simp
  rw [after0_10]
  idx_vars y
  have hr : ∀ r, ∃ u : Fin 3072 → ℝ, ∀ j, gateRow m c t r j = (u j : EReal) := fun r => by
    rw [gateRow_eq]
    exact Gmlp.gate_real _ _ _ (h c).1 (h c).2
  rw [out_apply m c t hr]
  refine Eq.trans ?_ (congrArg (result m c) (out_blk10 t y0 y1)).symm
  unfold result Gmlp.gmlp Gmlp.gated normed
  simp only [hidden_eq, gateRow_eq, lng_blk, lnb_blk, bias_blk, wo_blk]
  unfold rowsT winT mixT
  simp only [rows_blk, win_blk, ws_blk, row_eq, pos_eq t y0]
  rfl

theorem arr_first (c : Dev nD) : (dats m 0 c).arrAt 11 cfg0.N = first m c := by
  refine (dats m 0 c).arrAt_eq_of_covers 11 _ (by decide +kernel) fun t hf y => ?_
  blk_simp
  rw [after0_11]
  idx_vars y
  rw [first_apply]
  simp only [first_blk]
  exact (congrArg (first m c) (out_blk11 t y0 y1)).symm

theorem arr_second (c : Dev nD) : (dats m 0 c).arrAt 12 cfg0.N = second m c := by
  refine (dats m 0 c).arrAt_eq_of_covers 12 _ (by decide +kernel) fun t hf y => ?_
  blk_simp
  rw [after0_12]
  idx_vars y
  rw [second_apply]
  simp only [second_blk]
  exact (congrArg (second m c) (out_blk12 t y0 y1)).symm

/-- The kernel runs and leaves its three results, its arguments unchanged. -/
theorem run (h : Real m) (g : Dev nD → PrngReg) : θ_run defs (onTc (τ := τ) (main (F := Ideal))) ⟨m, fun _ => 0, g⟩ fun r => ∀ c : Dev nD,
      r.2.mem ((c.tc : Thread nD τ).loc main_v6_0) = result m c
      ∧ r.2.mem ((c.tc : Thread nD τ).loc main_v6_1) = first m c
      ∧ r.2.mem ((c.tc : Thread nD τ).loc main_v6_2) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ hr c => by
    obtain ⟨h0, h1, h2, ha⟩ := hr c
    exact ⟨h0.trans (arr_result m h c), h1.trans (arr_first m c), h2.trans (arr_second m c), ha⟩) (Value.run_blocks m g)

end Cert.Kernel6Ideal.Hand

end
-- ==== Proof.lean ====
module

public import proofs.«01_k».proof.Defs
public import proofs.«01_k».proof.Proof.Kernel.Frame
public import proofs.«01_k».proof.Proof.KernelIdeal.Frame
public import proofs.«01_k».proof.Proof.Mlp.Last
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Mlp.Mix
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Mlp.Between
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Proj.In
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gmlp.Reference
public import proofs.«01_k».proof.Proof.Gmlp.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem

/-- The constant named `inv_ln2` is the inverse of `log 2` at the ideal instance. -/
theorem preserves : Cert.preserves_Kernel_KernelIdeal :=
  IdealRules.named_const.statement Cert.KernelIdeal.κ "inv_ln2" .f32 0x3FB8AA3B#32 (((Real.log 2)⁻¹ : ℝ) : EReal) rfl

/-- The MLP's kernel runs, its arguments unchanged and its counters at zero. -/
theorem frame_mlp : Cert.quiescent_Kernel2 := fun m ρ _ => Cert.Kernel2.Gen.frame m ρ

/-- The MLP's reference runs, its arguments unchanged; it has no semaphore. -/
theorem frame_mlp_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The MLP's kernel and its reference leave the same array. -/
theorem value_mlp : Cert.algebraic_Kernel2Ideal_Reference2Ideal := by
  intro m g m' g' _ hm
  refine ⟨fun c => Cert.Kernel2Ideal.Hand.result m c, Cert.Kernel2Ideal.Hand.run m g, ?_⟩
  refine (θ_run Cert.Reference2Ideal.defs _ _).mono (fun r h c => ⟨(h c).1.trans ?_, (h c).2⟩)
    (Cert.Reference2Ideal.Value.run (F := Ideal) m' g')
  obtain ⟨h0, h1, h2, h3, h4⟩ := hm c
  funext y
  idx_vars y
  refine (Cert.Reference2Ideal.Hand.result_apply m' c y0 y1).trans ?_
  rw [h0, h1, h2, h3, h4]
  rfl

/-- The constant named `sb_scale` is the inverse of `√128` times that of `log 2` at the ideal instance. -/
theorem preserves_proj : Cert.preserves_Kernel5_Kernel5Ideal :=
  IdealRules.named_const.statement Cert.Kernel5Ideal.κ "sb_scale" .f32 0x3E0293EE#32
    (((Real.sqrt 128)⁻¹ * (Real.log 2)⁻¹ : ℝ) : EReal) rfl

/-- The constants named `inv_sqrt2` and `inv_half` are the inverses of `√2` and of 3072 at the ideal instance. -/
theorem preserves_gmlp : Cert.preserves_Kernel6_Kernel6Ideal :=
  ⟨IdealRules.named_const.statement Cert.Kernel6Ideal.κ "inv_sqrt2" .f32 0x3F3504F3#32 (((Real.sqrt 2)⁻¹ : ℝ) : EReal) rfl,
    IdealRules.named_const.statement Cert.Kernel6Ideal.κ "inv_half" .f32 0x39AAAAAB#32 ((1 / 3072 : ℝ) : EReal) rfl⟩

/-- Of the MLP with the mixers' projection: the kernel runs, its arguments unchanged and its counters at zero. -/
theorem frame_mix : Cert.quiescent_Kernel3 := fun m ρ _ => Cert.Kernel3.Gen.frame m ρ

/-- Of the MLP with the mixers' projection: the reference runs, its arguments unchanged; it has no semaphore. -/
theorem frame_mix_reference : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Value.run (F := Ideal) m ρ)

/-- Of the MLP with the mixers' projection: the kernel and its reference leave the same arrays. -/
theorem value_mix : Cert.algebraic_Kernel3Ideal_Reference3Ideal := by
  intro m g m' g' _ hm
  refine ⟨fun c => Cert.Kernel3Ideal.Hand.result m c, fun c => Cert.Kernel3Ideal.Hand.first m c, fun c => Cert.Kernel3Ideal.Hand.second m c, Cert.Kernel3Ideal.Hand.run m g, ?_⟩
  refine (θ_run Cert.Reference3Ideal.defs _ _).mono (fun r h c => ?_) (Cert.Reference3Ideal.Hand.run m' g')
  obtain ⟨e0, e1, e2, e3, e4, e5, e6, e7, e8⟩ := hm c
  obtain ⟨h0, h1, h2, h⟩ := h c
  refine ⟨h0.trans ?_, h1.trans ?_, h2.trans ?_, h⟩
  · unfold Cert.Reference3Ideal.Hand.result
    rw [e0, e1, e2, e3, e4, e5, e6]
    rfl
  · unfold Cert.Reference3Ideal.Hand.first
    rw [e7]
    rfl
  · unfold Cert.Reference3Ideal.Hand.second
    rw [e8]
    rfl

/-- Of the MLP between two layers: the kernel runs, its arguments unchanged and its counters at zero. -/
theorem frame_between : Cert.quiescent_Kernel4 := fun m ρ _ => Cert.Kernel4.Gen.frame m ρ

/-- Of the MLP between two layers: the reference runs, its arguments unchanged; it has no semaphore. -/
theorem frame_between_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

/-- Of the MLP between two layers: the kernel and its reference leave the same arrays. -/
theorem value_between : Cert.algebraic_Kernel4Ideal_Reference4Ideal := by
  intro m g m' g' _ hm
  refine ⟨fun c => Cert.Kernel4Ideal.Hand.result m c, fun c => Cert.Kernel4Ideal.Hand.weights m c, Cert.Kernel4Ideal.Hand.run m g, ?_⟩
  refine (θ_run Cert.Reference4Ideal.defs _ _).mono (fun r h c => ?_) (Cert.Reference4Ideal.Hand.run m' g')
  obtain ⟨e0, e1, e2, e3, e4⟩ := hm c
  obtain ⟨h0, h1, h⟩ := h c
  refine ⟨h0.trans ?_, h1.trans ?_, h⟩
  · unfold Cert.Reference4Ideal.Hand.result
    rw [e0, e1, e2, e3]
    rfl
  · unfold Cert.Reference4Ideal.Hand.weights
    rw [e4]
    rfl

/-- Of the first projection: the kernel runs, its arguments unchanged and its counters at zero. -/
theorem frame_proj : Cert.quiescent_Kernel5 := fun m ρ _ => Cert.Kernel5.Gen.frame m ρ

/-- Of the first projection: the reference runs, its arguments unchanged; it has no semaphore. -/
theorem frame_proj_reference : Cert.quiescent_Reference5Ideal := fun m ρ _ =>
  (θ_run Cert.Reference5Ideal.defs _ _).mono
    (fun r h => ⟨fun c => (h c).2.2.2.2.2, sem_eq_zero_of_no_sems (by decide) r.2⟩) (Cert.Reference5Ideal.Value.run (F := Ideal) m ρ)

/-- Of the first projection: the kernel and its reference leave the same arrays. -/
theorem value_proj : Cert.algebraic_Kernel5Ideal_Reference5Ideal := by
  intro m g m' g' _ hm
  refine ⟨fun c => Cert.Kernel5Ideal.Hand.left m c, fun c => Cert.Kernel5Ideal.Hand.right m c, fun c => Cert.Kernel5Ideal.Hand.mix m c, fun c => Cert.Kernel5Ideal.Hand.first m c, fun c => Cert.Kernel5Ideal.Hand.second m c, Cert.Kernel5Ideal.Hand.run m g, ?_⟩
  refine (θ_run Cert.Reference5Ideal.defs _ _).mono (fun r h c => ?_) (Cert.Reference5Ideal.Hand.run m' g')
  obtain ⟨e0, e1, e2, e3, e4, e5⟩ := hm c
  obtain ⟨h0, h1, h2, h3, h4, h⟩ := h c
  refine ⟨h0.trans ?_, h1.trans ?_, h2.trans ?_, h3.trans ?_, h4.trans ?_, h⟩
  · unfold Cert.Reference5Ideal.Hand.left
    rw [e0, e1, e2]
    rfl
  · unfold Cert.Reference5Ideal.Hand.right
    rw [e0, e1, e2]
    rfl
  · unfold Cert.Reference5Ideal.Hand.mix
    rw [e3]
    rfl
  · unfold Cert.Reference5Ideal.Hand.first
    rw [e4]
    rfl
  · unfold Cert.Reference5Ideal.Hand.second
    rw [e5]
    rfl

/-- The side conditions of the precondition. -/
theorem finite_facts : Cert.Pre_finite.Facts where
  bcast_S_S1024 := by decide
  bcast_S_S1024x6144 := by decide

/-- A value below infinity in magnitude is a real number. -/
theorem real_of_lt (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe a => exact ⟨a, rfl⟩

/-- What the precondition says: the gain and the input projection's weights are real numbers. -/
theorem real_of_finite (m : (ℓ : Loc Cert.Kernel6Ideal.nD Cert.Kernel6Ideal.τ Cert.Kernel6Ideal.sig) → Buf (Elt Ideal) ℓ)
    (h : Cert.Pre_Kernel6Ideal_finite (hPre_finite := finite_facts) m) : Cert.Kernel6Ideal.Hand.Real m := fun c =>
  ⟨fun d => real_of_lt _ (congrFun (h c).1 (ix1 d)), fun d j => real_of_lt _ (congrFun (h c).2 (ix2 d j))⟩

/-- Of the gMLP: the kernel runs, its arguments unchanged and its counters at zero. -/
theorem frame_gmlp : Cert.quiescent_Kernel6 := fun m ρ _ => Cert.Kernel6.Gen.frame m ρ

/-- Of the gMLP: the reference runs, its arguments unchanged; it has no semaphore. -/
theorem frame_gmlp_reference : Cert.quiescent_Reference6Ideal := fun m ρ _ =>
  (θ_run Cert.Reference6Ideal.defs _ _).mono
    (fun r h => ⟨fun c => (h c).2.2.2, sem_eq_zero_of_no_sems (by decide) r.2⟩) (Cert.Reference6Ideal.Value.run (F := Ideal) m ρ)

/-- The same of the inputs that the precondition admits. -/
theorem frame_gmlp_reference_finite : haveI := finite_facts; Cert.quiescent_Reference6Ideal_pre_finite := fun m ρ _ =>
  frame_gmlp_reference m ρ trivial

/-- Of the gMLP: the kernel and its reference leave the same arrays. -/
theorem value_gmlp : haveI := finite_facts; Cert.algebraic_Kernel6Ideal_Reference6Ideal_pre_finite := by
  intro m g m' g' hp hm
  refine ⟨fun c => Cert.Kernel6Ideal.Hand.result m c, fun c => Cert.Kernel6Ideal.Hand.first m c, fun c => Cert.Kernel6Ideal.Hand.second m c, Cert.Kernel6Ideal.Hand.run m (real_of_finite m hp) g, ?_⟩
  refine (θ_run Cert.Reference6Ideal.defs _ _).mono (fun r h c => ?_) (Cert.Reference6Ideal.Hand.run m' g')
  obtain ⟨e0, e1, e2, e3, e4, e5, e6, e7, e8, e9⟩ := hm c
  obtain ⟨h0, h1, h2, h⟩ := h c
  refine ⟨h0.trans ?_, h1.trans ?_, h2.trans ?_, h⟩
  · unfold Cert.Reference6Ideal.Hand.result
    rw [e0, e1, e2, e3, e4, e5, e6, e7]
    rfl
  · unfold Cert.Reference6Ideal.Hand.first
    rw [e8]
    rfl
  · unfold Cert.Reference6Ideal.Hand.second
    rw [e9]
    rfl

/-- Every claim of the certificate. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    finite_facts, fun m ρ _ => Cert.Kernel.Hand.frame m ρ, fun m ρ _ => Cert.KernelIdeal.Hand.frame m ρ,
    frame_mlp, fun m ρ _ => Cert.Kernel2Ideal.Gen.frame m ρ, frame_mlp_reference,
    frame_mix, fun m ρ _ => Cert.Kernel3Ideal.Gen.frame m ρ, frame_mix_reference,
    frame_between, fun m ρ _ => Cert.Kernel4Ideal.Gen.frame m ρ, frame_between_reference,
    frame_proj, fun m ρ _ => Cert.Kernel5Ideal.Gen.frame m ρ, frame_proj_reference,
    frame_gmlp, fun m ρ _ => Cert.Kernel6Ideal.Gen.frame m ρ, fun m ρ _ => Cert.Kernel6Ideal.Gen.frame m ρ, frame_gmlp_reference, frame_gmlp_reference_finite,
    preserves, trivial, value_mlp, trivial, value_mix, trivial, value_between, preserves_proj, value_proj, preserves_gmlp, value_gmlp⟩

end Cert.Proof

end
